-- ==== Defs.lean ====
def Pre_Kernel [hPre_ids_and_bins_in_tables : Cert.Pre_ids_and_bins_in_tables.Facts] (m : (ℓ : Loc Cert.Kernel.nD Cert.Kernel.τ Cert.Kernel.sig) → Buf (Elt Bits) ℓ) : Prop :=
  ∀ c : Dev Cert.Kernel.nD,
    (Cert.Pre_ids_and_bins_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_ids_in_tables : Cert.Pre_ids_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_ids_and_bins_in_tables [hPre_ids_and_bins_in_tables : Cert.Pre_ids_and_bins_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_bins_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_tables [hPre_ids_in_tables : Cert.Pre_ids_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_ids_and_bins_in_tables : Cert.Pre_ids_and_bins_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ids_and_bins_in_tables [hKernelIdeal : Cert.KernelIdeal.Facts] [hPre_ids_and_bins_in_tables : Cert.Pre_ids_and_bins_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_bins_in_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids_in_tables [hReferenceIdeal : Cert.ReferenceIdeal.Facts] [hPre_ids_in_tables : Cert.Pre_ids_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ids_and_bins_in_tables : Cert.Pre_ids_and_bins_in_tables.Facts) (hPre_ids_in_tables : Cert.Pre_ids_in_tables.Facts),
    quiescent_Kernel (hKernel := hKernel) (hPre_ids_and_bins_in_tables := hPre_ids_and_bins_in_tables)
    ∧ quiescent_KernelIdeal (hKernelIdeal := hKernelIdeal) (hPre_ids_in_tables := hPre_ids_in_tables)
    ∧ quiescent_KernelIdeal_pre_ids_and_bins_in_tables (hKernelIdeal := hKernelIdeal) (hPre_ids_and_bins_in_tables := hPre_ids_and_bins_in_tables)
    ∧ quiescent_ReferenceIdeal (hReferenceIdeal := hReferenceIdeal)
    ∧ quiescent_ReferenceIdeal_pre_ids_in_tables (hReferenceIdeal := hReferenceIdeal) (hPre_ids_in_tables := hPre_ids_in_tables)
    ∧ preserves_Kernel_KernelIdeal
    ∧ algebraic_KernelIdeal_ReferenceIdeal (hKernelIdeal := hKernelIdeal) (hReferenceIdeal := hReferenceIdeal) (hPre_ids_in_tables := hPre_ids_in_tables)
-- ==== Pre_ids_and_bins_in_tables.lean ====
abbrev S32x32x4x84x84 : Shape := ⟨5, ![32, 32, 4, 84, 84]⟩
abbrev S32x32 : Shape := ⟨2, ![32, 32]⟩
abbrev S32 : Shape := ⟨1, ![32]⟩
abbrev S784x512 : Shape := ⟨2, ![784, 512]⟩
abbrev S512 : Shape := ⟨1, ![512]⟩
abbrev S121x512 : Shape := ⟨2, ![121, 512]⟩
abbrev S41x512 : Shape := ⟨2, ![41, 512]⟩
abbrev S18x512 : Shape := ⟨2, ![18, 512]⟩
abbrev S32x1 : Shape := ⟨2, ![32, 1]⟩
abbrev S_ : Shape := ⟨0, ![]⟩

class Facts : Prop where
  bcast_S32_S32x1_0 : S32.BroadcastsInDim S32x1 (![0] : Fin 1 → Fin S32x1.rank)
  bcast_S_S32x32 : S_.BroadcastsInDim S32x32 (![] : Fin 0 → Fin S32x32.rank)
  bcast_S_S32x1 : S_.BroadcastsInDim S32x1 (![] : Fin 0 → Fin S32x1.rank)
  bcast_S32x1_S32x32_0_1 : S32x1.BroadcastsInDim S32x32 (![0, 1] : Fin 2 → Fin S32x32.rank)

variable [Facts]

def fn_clip {F : FTy → Type} [FloatOps F] (arg0 : FVec F S32x32 .f32) (arg1 : FVec F S_ .f32) (arg2 : FVec F S_ .f32) : FVec F S32x32 .f32 :=
  let v0 : FVec F S_ .f32 := id arg1
  let v1 : FVec F S32x32 .f32 := broadcastInDim S32x32 ![] bcast_S_S32x32 v0
  let v2 : FVec F S32x32 .f32 := maximumf v1 arg0
  let v3 : FVec F S_ .f32 := id arg2
  let v4 : FVec F S32x32 .f32 := broadcastInDim S32x32 ![] bcast_S_S32x32 v3
  let v5 : FVec F S32x32 .f32 := minimumf v4 v2
  v5

def fn_round {F : FTy → Type} [FloatOps F] (arg0 : FVec F S32x32 .f32) : FVec F S32x32 .f32 :=
  let v0 : FVec F S32x32 .f32 := Host.roundeven arg0
  v0

def fn_part1 {F : FTy → Type} [FloatOps F] (main_v5 : IVec S32x32 32) (main_v14 : IVec S32x32 1) (main_v16 : IVec S32x1 1) : IVec S32x32 1 :=
  let main_v17 : IVec S32x32 1 := broadcastInDim S32x32 ![0, 1] bcast_S32x1_S32x32_0_1 main_v16
  let main_v18 : IVec S32x32 1 := andi main_v14 main_v17
  let main_c_5 : IVec S_ 32 := constantI S_ 32 0#32
  let main_v19 : IVec S32x32 32 := broadcastInDim S32x32 ![] bcast_S_S32x32 main_c_5
  let main_v20 : IVec S32x32 1 := cmpi .sge main_v5 main_v19
  let main_v21 : IVec S32x32 1 := andi main_v18 main_v20
  let main_c_6 : IVec S_ 32 := constantI S_ 32 121#32
  let main_v22 : IVec S32x32 32 := broadcastInDim S32x32 ![] bcast_S_S32x32 main_c_6
  let main_v23 : IVec S32x32 1 := cmpi .slt main_v5 main_v22
  let main_v24 : IVec S32x32 1 := andi main_v21 main_v23
  main_v24

def fn {F : FTy → Type} [FloatOps F] (main_arg0 : FVec F S32x32x4x84x84 .f32) (main_arg1 : IVec S32x32 32) (main_arg2 : FVec F S32x32 .f32) (main_arg3 : IVec S32 32) (main_arg4 : FVec F S784x512 .f32) (main_arg5 : FVec F S512 .f32) (main_arg6 : FVec F S121x512 .f32) (main_arg7 : FVec F S41x512 .f32) (main_arg8 : FVec F S18x512 .f32) : IVec S32x32 1 :=
  let main_v0 : IVec S32x1 32 := broadcastInDim S32x1 ![0] bcast_S32_S32x1_0 main_arg3
  let main_cst : FVec F S_ .f32 := constant S_ .f32 0xC1A00000#32
  let main_cst_0 : FVec F S_ .f32 := constant S_ .f32 0x42C80000#32
  let main_v1 : FVec F S32x32 .f32 := fn_clip (F := F) main_arg2 main_cst main_cst_0
  let main_cst_1 : FVec F S_ .f32 := constant S_ .f32 0xC1A00000#32
  let main_v2 : FVec F S32x32 .f32 := broadcastInDim S32x32 ![] bcast_S_S32x32 main_cst_1
  let main_v3 : FVec F S32x32 .f32 := subf main_v1 main_v2
  let main_v4 : FVec F S32x32 .f32 := fn_round (F := F) main_v3
  let main_v5 : IVec S32x32 32 := fptosi 32 main_v4
  let main_c : IVec S_ 32 := constantI S_ 32 0#32
  let main_v6 : IVec S32x32 32 := broadcastInDim S32x32 ![] bcast_S_S32x32 main_c
  let main_v7 : IVec S32x32 1 := cmpi .sge main_arg1 main_v6
  let main_c_2 : IVec S_ 32 := constantI S_ 32 18#32
  let main_v8 : IVec S32x32 32 := broadcastInDim S32x32 ![] bcast_S_S32x32 main_c_2
  let main_v9 : IVec S32x32 1 := cmpi .slt main_arg1 main_v8
  let main_v10 : IVec S32x32 1 := andi main_v7 main_v9
  let main_c_3 : IVec S_ 32 := constantI S_ 32 0#32
  let main_v11 : IVec S32x1 32 := broadcastInDim S32x1 ![] bcast_S_S32x1 main_c_3
  let main_v12 : IVec S32x1 1 := cmpi .sge main_v0 main_v11
  let main_v13 : IVec S32x32 1 := broadcastInDim S32x32 ![0, 1] bcast_S32x1_S32x32_0_1 main_v12
  let main_v14 : IVec S32x32 1 := andi main_v10 main_v13
  let main_c_4 : IVec S_ 32 := constantI S_ 32 41#32
  let main_v15 : IVec S32x1 32 := broadcastInDim S32x1 ![] bcast_S_S32x1 main_c_4
  let main_v16 : IVec S32x1 1 := cmpi .slt main_v0 main_v15
  fn_part1 (F := F) main_v5 main_v14 main_v16
-- ==== Pre_ids_in_tables.lean ====
abbrev S32x32x4x84x84 : Shape := ⟨5, ![32, 32, 4, 84, 84]⟩
abbrev S32x32 : Shape := ⟨2, ![32, 32]⟩
abbrev S32 : Shape := ⟨1, ![32]⟩
abbrev S784x512 : Shape := ⟨2, ![784, 512]⟩
abbrev S512 : Shape := ⟨1, ![512]⟩
abbrev S121x512 : Shape := ⟨2, ![121, 512]⟩
abbrev S41x512 : Shape := ⟨2, ![41, 512]⟩
abbrev S18x512 : Shape := ⟨2, ![18, 512]⟩
abbrev S32x1 : Shape := ⟨2, ![32, 1]⟩
abbrev S_ : Shape := ⟨0, ![]⟩

class Facts : Prop where
  bcast_S32_S32x1_0 : S32.BroadcastsInDim S32x1 (![0] : Fin 1 → Fin S32x1.rank)
  bcast_S_S32x32 : S_.BroadcastsInDim S32x32 (![] : Fin 0 → Fin S32x32.rank)
  bcast_S_S32x1 : S_.BroadcastsInDim S32x1 (![] : Fin 0 → Fin S32x1.rank)
  bcast_S32x1_S32x32_0_1 : S32x1.BroadcastsInDim S32x32 (![0, 1] : Fin 2 → Fin S32x32.rank)

variable [Facts]

def fn {F : FTy → Type} [FloatOps F] (main_arg0 : FVec F S32x32x4x84x84 .f32) (main_arg1 : IVec S32x32 32) (main_arg2 : FVec F S32x32 .f32) (main_arg3 : IVec S32 32) (main_arg4 : FVec F S784x512 .f32) (main_arg5 : FVec F S512 .f32) (main_arg6 : FVec F S121x512 .f32) (main_arg7 : FVec F S41x512 .f32) (main_arg8 : FVec F S18x512 .f32) : IVec S32x32 1 :=
  let main_v0 : IVec S32x1 32 := broadcastInDim S32x1 ![0] bcast_S32_S32x1_0 main_arg3
  let main_c : IVec S_ 32 := constantI S_ 32 0#32
  let main_v1 : IVec S32x32 32 := broadcastInDim S32x32 ![] bcast_S_S32x32 main_c
  let main_v2 : IVec S32x32 1 := cmpi .sge main_arg1 main_v1
  let main_c_0 : IVec S_ 32 := constantI S_ 32 18#32
  let main_v3 : IVec S32x32 32 := broadcastInDim S32x32 ![] bcast_S_S32x32 main_c_0
  let main_v4 : IVec S32x32 1 := cmpi .slt main_arg1 main_v3
  let main_v5 : IVec S32x32 1 := andi main_v2 main_v4
  let main_c_1 : IVec S_ 32 := constantI S_ 32 0#32
  let main_v6 : IVec S32x1 32 := broadcastInDim S32x1 ![] bcast_S_S32x1 main_c_1
  let main_v7 : IVec S32x1 1 := cmpi .sge main_v0 main_v6
  let main_v8 : IVec S32x32 1 := broadcastInDim S32x32 ![0, 1] bcast_S32x1_S32x32_0_1 main_v7
  let main_v9 : IVec S32x32 1 := andi main_v5 main_v8
  let main_c_2 : IVec S_ 32 := constantI S_ 32 41#32
  let main_v10 : IVec S32x1 32 := broadcastInDim S32x1 ![] bcast_S_S32x1 main_c_2
  let main_v11 : IVec S32x1 1 := cmpi .slt main_v0 main_v10
  let main_v12 : IVec S32x32 1 := broadcastInDim S32x32 ![0, 1] bcast_S32x1_S32x32_0_1 main_v11
  let main_v13 : IVec S32x32 1 := andi main_v9 main_v12
  main_v13
-- ==== Kernel.lean ====
abbrev S32x32x4x84x84 : Shape := ⟨5, ![32, 32, 4, 84, 84]⟩
abbrev S32x32 : Shape := ⟨2, ![32, 32]⟩
abbrev S32 : Shape := ⟨1, ![32]⟩
abbrev S784x512 : Shape := ⟨2, ![784, 512]⟩
abbrev S512 : Shape := ⟨1, ![512]⟩
abbrev S121x512 : Shape := ⟨2, ![121, 512]⟩
abbrev S41x512 : Shape := ⟨2, ![41, 512]⟩
abbrev S18x512 : Shape := ⟨2, ![18, 512]⟩
abbrev S1024x4x84x84 : Shape := ⟨4, ![1024, 4, 84, 84]⟩
abbrev S_ : Shape := ⟨0, ![]⟩
abbrev S32x1 : Shape := ⟨2, ![32, 1]⟩
abbrev S1x1024 : Shape := ⟨2, ![1, 1024]⟩
abbrev S1x512 : Shape := ⟨2, ![1, 512]⟩
abbrev S1024x39x512 : Shape := ⟨3, ![1024, 39, 512]⟩
abbrev S8x4x84x84 : Shape := ⟨4, ![8, 4, 84, 84]⟩
abbrev S8x39x512 : Shape := ⟨3, ![8, 39, 512]⟩
abbrev S8x4x6x14x84 : Shape := ⟨5, ![8, 4, 6, 14, 84]⟩
abbrev S8x4x6x14x14 : Shape := ⟨5, ![8, 4, 6, 14, 14]⟩
abbrev S8x6x4x14x14 : Shape := ⟨5, ![8, 6, 4, 14, 14]⟩
abbrev S48x784 : Shape := ⟨2, ![48, 784]⟩
abbrev S48x512 : Shape := ⟨2, ![48, 512]⟩
abbrev S8x6x512 : Shape := ⟨3, ![8, 6, 512]⟩
abbrev S8x1x512 : Shape := ⟨3, ![8, 1, 512]⟩
abbrev S8x512 : Shape := ⟨2, ![8, 512]⟩
abbrev S1x1 : Shape := ⟨2, ![1, 1]⟩
abbrev S1x1x512 : Shape := ⟨3, ![1, 1, 512]⟩
abbrev S32x1248x512 : Shape := ⟨3, ![32, 1248, 512]⟩

abbrev nBuf : Space → Nat
  | .hbm => 31
  | .vmem => 9
  | .smem => 3
  | _ => 0

abbrev bufTy : (tb : Table) → Fin (tcTables nBuf tb) → BufTy
  | .hbm, ⟨0, _⟩ => ⟨S32x32x4x84x84, .f32⟩
  | .hbm, ⟨1, _⟩ => ⟨S32x32, .i32⟩
  | .hbm, ⟨2, _⟩ => ⟨S32x32, .f32⟩
  | .hbm, ⟨3, _⟩ => ⟨S32, .i32⟩
  | .hbm, ⟨4, _⟩ => ⟨S784x512, .f32⟩
  | .hbm, ⟨5, _⟩ => ⟨S512, .f32⟩
  | .hbm, ⟨6, _⟩ => ⟨S121x512, .f32⟩
  | .hbm, ⟨7, _⟩ => ⟨S41x512, .f32⟩
  | .hbm, ⟨8, _⟩ => ⟨S18x512, .f32⟩
  | .hbm, ⟨9, _⟩ => ⟨S1024x4x84x84, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x32, .f32⟩
  | .hbm, ⟨14, _⟩ => ⟨S32x32, .f32⟩
  | .hbm, ⟨15, _⟩ => ⟨S_, .f32⟩
  | .hbm, ⟨16, _⟩ => ⟨S32x32, .f32⟩
  | .hbm, ⟨17, _⟩ => ⟨S32x32, .f32⟩
  | .hbm, ⟨18, _⟩ => ⟨S_, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .i32⟩
  | .hbm, ⟨23, _⟩ => ⟨S32x1, .i32⟩
  | .hbm, ⟨24, _⟩ => ⟨S32x32, .i32⟩
  | .hbm, ⟨25, _⟩ => ⟨S1x1024, .i32⟩
  | .hbm, ⟨26, _⟩ => ⟨S1x1024, .i32⟩
  | .hbm, ⟨27, _⟩ => ⟨S1x1024, .i32⟩
  | .hbm, ⟨28, _⟩ => ⟨S1x512, .f32⟩
  | .hbm, ⟨29, _⟩ => ⟨S1024x39x512, .f32⟩
  | .hbm, ⟨30, _⟩ => ⟨S32x1248x512, .f32⟩
  | .local _ .vmem, ⟨0, _⟩ => ⟨S8x4x84x84, .f32⟩
  | .local _ .vmem, ⟨1, _⟩ => ⟨S8x4x84x84, .f32⟩
  | .local _ .vmem, ⟨2, _⟩ => ⟨S784x512, .f32⟩
  | .local _ .vmem, ⟨3, _⟩ => ⟨S1x512, .f32⟩
  | .local _ .vmem, ⟨4, _⟩ => ⟨S121x512, .f32⟩
  | .local _ .vmem, ⟨5, _⟩ => ⟨S41x512, .f32⟩
  | .local _ .vmem, ⟨6, _⟩ => ⟨S18x512, .f32⟩
  | .local _ .vmem, ⟨7, _⟩ => ⟨S8x39x512, .f32⟩
  | .local _ .vmem, ⟨8, _⟩ => ⟨S8x39x512, .f32⟩
  | .local _ .smem, ⟨0, _⟩ => ⟨S1x1024, .i32⟩
  | .local _ .smem, ⟨1, _⟩ => ⟨S1x1024, .i32⟩
  | .local _ .smem, ⟨2, _⟩ => ⟨S1x1024, .i32⟩
  | _, _ => ⟨S32x32x4x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def k0_off1 (i : grid0.Coords) : Fin 2 → Nat :=
  let c0_84 : Index := 0#32
  let arg0 : BitVec 32 := BitVec.ofNat 32 (i 0).val
  let c8_i32 : BitVec 32 := 8#32
  let v234 : BitVec 32 := Scalar.muli arg0 c8_i32
  let c0_i32 : BitVec 32 := 0#32
  let v235 : BitVec 32 := Scalar.addi v234 c0_i32
  let v236 : Index := Scalar.indexCast v235
  ![0, v236.toNat]
def k0_off2 (v237 : BitVec 32) : Fin 2 → Nat :=
  let v242 : Index := Scalar.indexCast v237
  let c0_87 : Index := 0#32
  ![v242.toNat, 0]

def k0_chk1 (v237 : BitVec 32) : Prop :=
  (∀ a, (k0_off2 v237) a + S1x512.size a ≤ S121x512.size a)
theorem k0_off2_inb : ∀ (v237 : BitVec 32) (k0_hw1 : k0_chk1 v237), ∀ a, (k0_off2 v237) a + S1x512.size a ≤ S121x512.size a := fun v237 k0_hw1 => k0_hw1

def k0_off3 (v241 : BitVec 32) : Fin 2 → Nat :=
  let v247 : Index := Scalar.indexCast v241
  let c0_91 : Index := 0#32
  ![v247.toNat, 0]

def k0_chk2 (v241 : BitVec 32) : Prop :=
  (∀ a, (k0_off3 v241) a + S1x512.size a ≤ S41x512.size a)
theorem k0_off3_inb : ∀ (v241 : BitVec 32) (k0_hw2 : k0_chk2 v241), ∀ a, (k0_off3 v241) a + S1x512.size a ≤ S41x512.size a := fun v241 k0_hw2 => k0_hw2

def k0_off4 (v239 : BitVec 32) : Fin 2 → Nat :=
  let v252 : Index := Scalar.indexCast v239
  let c0_94 : Index := 0#32
  ![v252.toNat, 0]

def k0_chk3 (v239 : BitVec 32) : Prop :=
  (∀ a, (k0_off4 v239) a + S1x512.size a ≤ S18x512.size a)
theorem k0_off4_inb : ∀ (v239 : BitVec 32) (k0_hw3 : k0_chk3 v239), ∀ a, (k0_off4 v239) a + S1x512.size a ≤ S18x512.size a := fun v239 k0_hw3 => k0_hw3

def k0_off5 (i : grid0.Coords) : Fin 2 → Nat :=
  let c0_98 : Index := 0#32
  let arg0 : BitVec 32 := BitVec.ofNat 32 (i 0).val
  let c8_i32_97 : BitVec 32 := 8#32
  let v257 : BitVec 32 := Scalar.muli arg0 c8_i32_97
  let c1_i32 : BitVec 32 := 1#32
  let v258 : BitVec 32 := Scalar.addi v257 c1_i32
  let v259 : Index := Scalar.indexCast v258
  ![0, v259.toNat]
def k0_off6 (v260 : BitVec 32) : Fin 2 → Nat :=
  let v265 : Index := Scalar.indexCast v260
  let c0_101 : Index := 0#32
  ![v265.toNat, 0]

def k0_chk4 (v260 : BitVec 32) : Prop :=
  (∀ a, (k0_off6 v260) a + S1x512.size a ≤ S121x512.size a)
theorem k0_off6_inb : ∀ (v260 : BitVec 32) (k0_hw4 : k0_chk4 v260), ∀ a, (k0_off6 v260) a + S1x512.size a ≤ S121x512.size a := fun v260 k0_hw4 => k0_hw4

def k0_off7 (v264 : BitVec 32) : Fin 2 → Nat :=
  let v270 : Index := Scalar.indexCast v264
  let c0_105 : Index := 0#32
  ![v270.toNat, 0]

def k0_chk5 (v264 : BitVec 32) : Prop :=
  (∀ a, (k0_off7 v264) a + S1x512.size a ≤ S41x512.size a)
theorem k0_off7_inb : ∀ (v264 : BitVec 32) (k0_hw5 : k0_chk5 v264), ∀ a, (k0_off7 v264) a + S1x512.size a ≤ S41x512.size a := fun v264 k0_hw5 => k0_hw5

def k0_off8 (v262 : BitVec 32) : Fin 2 → Nat :=
  let v275 : Index := Scalar.indexCast v262
  let c0_109 : Index := 0#32
  ![v275.toNat, 0]

def k0_chk6 (v262 : BitVec 32) : Prop :=
  (∀ a, (k0_off8 v262) a + S1x512.size a ≤ S18x512.size a)
theorem k0_off8_inb : ∀ (v262 : BitVec 32) (k0_hw6 : k0_chk6 v262), ∀ a, (k0_off8 v262) a + S1x512.size a ≤ S18x512.size a := fun v262 k0_hw6 => k0_hw6

def k0_off9 (i : grid0.Coords) : Fin 2 → Nat :=
  let c0_114 : Index := 0#32
  let arg0 : BitVec 32 := BitVec.ofNat 32 (i 0).val
  let c8_i32_113 : BitVec 32 := 8#32
  let v280 : BitVec 32 := Scalar.muli arg0 c8_i32_113
  let c2_i32 : BitVec 32 := 2#32
  let v281 : BitVec 32 := Scalar.addi v280 c2_i32
  let v282 : Index := Scalar.indexCast v281
  ![0, v282.toNat]
def k0_off10 (v283 : BitVec 32) : Fin 2 → Nat :=
  let v288 : Index := Scalar.indexCast v283
  let c0_117 : Index := 0#32
  ![v288.toNat, 0]

def k0_chk7 (v283 : BitVec 32) : Prop :=
  (∀ a, (k0_off10 v283) a + S1x512.size a ≤ S121x512.size a)
theorem k0_off10_inb : ∀ (v283 : BitVec 32) (k0_hw7 : k0_chk7 v283), ∀ a, (k0_off10 v283) a + S1x512.size a ≤ S121x512.size a := fun v283 k0_hw7 => k0_hw7

def k0_off11 (v287 : BitVec 32) : Fin 2 → Nat :=
  let v293 : Index := Scalar.indexCast v287
  let c0_121 : Index := 0#32
  ![v293.toNat, 0]

def k0_chk8 (v287 : BitVec 32) : Prop :=
  (∀ a, (k0_off11 v287) a + S1x512.size a ≤ S41x512.size a)
theorem k0_off11_inb : ∀ (v287 : BitVec 32) (k0_hw8 : k0_chk8 v287), ∀ a, (k0_off11 v287) a + S1x512.size a ≤ S41x512.size a := fun v287 k0_hw8 => k0_hw8

def k0_off12 (v285 : BitVec 32) : Fin 2 → Nat :=
  let v298 : Index := Scalar.indexCast v285
  let c0_125 : Index := 0#32
  ![v298.toNat, 0]

def k0_chk9 (v285 : BitVec 32) : Prop :=
  (∀ a, (k0_off12 v285) a + S1x512.size a ≤ S18x512.size a)
theorem k0_off12_inb : ∀ (v285 : BitVec 32) (k0_hw9 : k0_chk9 v285), ∀ a, (k0_off12 v285) a + S1x512.size a ≤ S18x512.size a := fun v285 k0_hw9 => k0_hw9

def k0_off13 (i : grid0.Coords) : Fin 2 → Nat :=
  let c0_130 : Index := 0#32
  let arg0 : BitVec 32 := BitVec.ofNat 32 (i 0).val
  let c8_i32_129 : BitVec 32 := 8#32
  let v303 : BitVec 32 := Scalar.muli arg0 c8_i32_129
  let c3_i32 : BitVec 32 := 3#32
  let v304 : BitVec 32 := Scalar.addi v303 c3_i32
  let v305 : Index := Scalar.indexCast v304
  ![0, v305.toNat]
def k0_off14 (v306 : BitVec 32) : Fin 2 → Nat :=
  let v311 : Index := Scalar.indexCast v306
  let c0_133 : Index := 0#32
  ![v311.toNat, 0]

def k0_chk10 (v306 : BitVec 32) : Prop :=
  (∀ a, (k0_off14 v306) a + S1x512.size a ≤ S121x512.size a)
theorem k0_off14_inb : ∀ (v306 : BitVec 32) (k0_hw10 : k0_chk10 v306), ∀ a, (k0_off14 v306) a + S1x512.size a ≤ S121x512.size a := fun v306 k0_hw10 => k0_hw10

def k0_off15 (v310 : BitVec 32) : Fin 2 → Nat :=
  let v316 : Index := Scalar.indexCast v310
  let c0_137 : Index := 0#32
  ![v316.toNat, 0]

def k0_chk11 (v310 : BitVec 32) : Prop :=
  (∀ a, (k0_off15 v310) a + S1x512.size a ≤ S41x512.size a)
theorem k0_off15_inb : ∀ (v310 : BitVec 32) (k0_hw11 : k0_chk11 v310), ∀ a, (k0_off15 v310) a + S1x512.size a ≤ S41x512.size a := fun v310 k0_hw11 => k0_hw11

def k0_off16 (v308 : BitVec 32) : Fin 2 → Nat :=
  let v321 : Index := Scalar.indexCast v308
  let c0_141 : Index := 0#32
  ![v321.toNat, 0]

def k0_chk12 (v308 : BitVec 32) : Prop :=
  (∀ a, (k0_off16 v308) a + S1x512.size a ≤ S18x512.size a)
theorem k0_off16_inb : ∀ (v308 : BitVec 32) (k0_hw12 : k0_chk12 v308), ∀ a, (k0_off16 v308) a + S1x512.size a ≤ S18x512.size a := fun v308 k0_hw12 => k0_hw12

def k0_off17 (i : grid0.Coords) : Fin 2 → Nat :=
  let c0_146 : Index := 0#32
  let arg0 : BitVec 32 := BitVec.ofNat 32 (i 0).val
  let c8_i32_145 : BitVec 32 := 8#32
  let v326 : BitVec 32 := Scalar.muli arg0 c8_i32_145
  let c4_i32 : BitVec 32 := 4#32
  let v327 : BitVec 32 := Scalar.addi v326 c4_i32
  let v328 : Index := Scalar.indexCast v327
  ![0, v328.toNat]
def k0_off18 (v329 : BitVec 32) : Fin 2 → Nat :=
  let v334 : Index := Scalar.indexCast v329
  let c0_149 : Index := 0#32
  ![v334.toNat, 0]

def k0_chk13 (v329 : BitVec 32) : Prop :=
  (∀ a, (k0_off18 v329) a + S1x512.size a ≤ S121x512.size a)
theorem k0_off18_inb : ∀ (v329 : BitVec 32) (k0_hw13 : k0_chk13 v329), ∀ a, (k0_off18 v329) a + S1x512.size a ≤ S121x512.size a := fun v329 k0_hw13 => k0_hw13

def k0_off19 (v333 : BitVec 32) : Fin 2 → Nat :=
  let v339 : Index := Scalar.indexCast v333
  let c0_153 : Index := 0#32
  ![v339.toNat, 0]

def k0_chk14 (v333 : BitVec 32) : Prop :=
  (∀ a, (k0_off19 v333) a + S1x512.size a ≤ S41x512.size a)
theorem k0_off19_inb : ∀ (v333 : BitVec 32) (k0_hw14 : k0_chk14 v333), ∀ a, (k0_off19 v333) a + S1x512.size a ≤ S41x512.size a := fun v333 k0_hw14 => k0_hw14

def k0_off20 (v331 : BitVec 32) : Fin 2 → Nat :=
  let v344 : Index := Scalar.indexCast v331
  let c0_157 : Index := 0#32
  ![v344.toNat, 0]

def k0_chk15 (v331 : BitVec 32) : Prop :=
  (∀ a, (k0_off20 v331) a + S1x512.size a ≤ S18x512.size a)
theorem k0_off20_inb : ∀ (v331 : BitVec 32) (k0_hw15 : k0_chk15 v331), ∀ a, (k0_off20 v331) a + S1x512.size a ≤ S18x512.size a := fun v331 k0_hw15 => k0_hw15

def k0_off21 (i : grid0.Coords) : Fin 2 → Nat :=
  let c0_162 : Index := 0#32
  let arg0 : BitVec 32 := BitVec.ofNat 32 (i 0).val
  let c8_i32_161 : BitVec 32 := 8#32
  let v349 : BitVec 32 := Scalar.muli arg0 c8_i32_161
  let c5_i32 : BitVec 32 := 5#32
  let v350 : BitVec 32 := Scalar.addi v349 c5_i32
  let v351 : Index := Scalar.indexCast v350
  ![0, v351.toNat]
def k0_off22 (v352 : BitVec 32) : Fin 2 → Nat :=
  let v357 : Index := Scalar.indexCast v352
  let c0_165 : Index := 0#32
  ![v357.toNat, 0]

def k0_chk16 (v352 : BitVec 32) : Prop :=
  (∀ a, (k0_off22 v352) a + S1x512.size a ≤ S121x512.size a)
theorem k0_off22_inb : ∀ (v352 : BitVec 32) (k0_hw16 : k0_chk16 v352), ∀ a, (k0_off22 v352) a + S1x512.size a ≤ S121x512.size a := fun v352 k0_hw16 => k0_hw16

def k0_off23 (v356 : BitVec 32) : Fin 2 → Nat :=
  let v362 : Index := Scalar.indexCast v356
  let c0_169 : Index := 0#32
  ![v362.toNat, 0]

def k0_chk17 (v356 : BitVec 32) : Prop :=
  (∀ a, (k0_off23 v356) a + S1x512.size a ≤ S41x512.size a)
theorem k0_off23_inb : ∀ (v356 : BitVec 32) (k0_hw17 : k0_chk17 v356), ∀ a, (k0_off23 v356) a + S1x512.size a ≤ S41x512.size a := fun v356 k0_hw17 => k0_hw17

def k0_off24 (v354 : BitVec 32) : Fin 2 → Nat :=
  let v367 : Index := Scalar.indexCast v354
  let c0_173 : Index := 0#32
  ![v367.toNat, 0]

def k0_chk18 (v354 : BitVec 32) : Prop :=
  (∀ a, (k0_off24 v354) a + S1x512.size a ≤ S18x512.size a)
theorem k0_off24_inb : ∀ (v354 : BitVec 32) (k0_hw18 : k0_chk18 v354), ∀ a, (k0_off24 v354) a + S1x512.size a ≤ S18x512.size a := fun v354 k0_hw18 => k0_hw18

def k0_off25 (i : grid0.Coords) : Fin 2 → Nat :=
  let c0_178 : Index := 0#32
  let arg0 : BitVec 32 := BitVec.ofNat 32 (i 0).val
  let c8_i32_177 : BitVec 32 := 8#32
  let v372 : BitVec 32 := Scalar.muli arg0 c8_i32_177
  let c6_i32 : BitVec 32 := 6#32
  let v373 : BitVec 32 := Scalar.addi v372 c6_i32
  let v374 : Index := Scalar.indexCast v373
  ![0, v374.toNat]
def k0_off26 (v375 : BitVec 32) : Fin 2 → Nat :=
  let v380 : Index := Scalar.indexCast v375
  let c0_181 : Index := 0#32
  ![v380.toNat, 0]

def k0_chk19 (v375 : BitVec 32) : Prop :=
  (∀ a, (k0_off26 v375) a + S1x512.size a ≤ S121x512.size a)
theorem k0_off26_inb : ∀ (v375 : BitVec 32) (k0_hw19 : k0_chk19 v375), ∀ a, (k0_off26 v375) a + S1x512.size a ≤ S121x512.size a := fun v375 k0_hw19 => k0_hw19

def k0_off27 (v379 : BitVec 32) : Fin 2 → Nat :=
  let v385 : Index := Scalar.indexCast v379
  let c0_185 : Index := 0#32
  ![v385.toNat, 0]

def k0_chk20 (v379 : BitVec 32) : Prop :=
  (∀ a, (k0_off27 v379) a + S1x512.size a ≤ S41x512.size a)
theorem k0_off27_inb : ∀ (v379 : BitVec 32) (k0_hw20 : k0_chk20 v379), ∀ a, (k0_off27 v379) a + S1x512.size a ≤ S41x512.size a := fun v379 k0_hw20 => k0_hw20

def k0_off28 (v377 : BitVec 32) : Fin 2 → Nat :=
  let v390 : Index := Scalar.indexCast v377
  let c0_189 : Index := 0#32
  ![v390.toNat, 0]

def k0_chk21 (v377 : BitVec 32) : Prop :=
  (∀ a, (k0_off28 v377) a + S1x512.size a ≤ S18x512.size a)
theorem k0_off28_inb : ∀ (v377 : BitVec 32) (k0_hw21 : k0_chk21 v377), ∀ a, (k0_off28 v377) a + S1x512.size a ≤ S18x512.size a := fun v377 k0_hw21 => k0_hw21

def k0_off29 (i : grid0.Coords) : Fin 2 → Nat :=
  let c0_194 : Index := 0#32
  let arg0 : BitVec 32 := BitVec.ofNat 32 (i 0).val
  let c8_i32_193 : BitVec 32 := 8#32
  let v395 : BitVec 32 := Scalar.muli arg0 c8_i32_193
  let c7_i32 : BitVec 32 := 7#32
  let v396 : BitVec 32 := Scalar.addi v395 c7_i32
  let v397 : Index := Scalar.indexCast v396
  ![0, v397.toNat]
def k0_off30 (v398 : BitVec 32) : Fin 2 → Nat :=
  let v403 : Index := Scalar.indexCast v398
  let c0_197 : Index := 0#32
  ![v403.toNat, 0]

def k0_chk22 (v398 : BitVec 32) : Prop :=
  (∀ a, (k0_off30 v398) a + S1x512.size a ≤ S121x512.size a)
theorem k0_off30_inb : ∀ (v398 : BitVec 32) (k0_hw22 : k0_chk22 v398), ∀ a, (k0_off30 v398) a + S1x512.size a ≤ S121x512.size a := fun v398 k0_hw22 => k0_hw22

def k0_off31 (v402 : BitVec 32) : Fin 2 → Nat :=
  let v408 : Index := Scalar.indexCast v402
  let c0_201 : Index := 0#32
  ![v408.toNat, 0]

def k0_chk23 (v402 : BitVec 32) : Prop :=
  (∀ a, (k0_off31 v402) a + S1x512.size a ≤ S41x512.size a)
theorem k0_off31_inb : ∀ (v402 : BitVec 32) (k0_hw23 : k0_chk23 v402), ∀ a, (k0_off31 v402) a + S1x512.size a ≤ S41x512.size a := fun v402 k0_hw23 => k0_hw23

def k0_off32 (v400 : BitVec 32) : Fin 2 → Nat :=
  let v413 : Index := Scalar.indexCast v400
  let c0_205 : Index := 0#32
  ![v413.toNat, 0]

def k0_chk24 (v400 : BitVec 32) : Prop :=
  (∀ a, (k0_off32 v400) a + S1x512.size a ≤ S18x512.size a)
theorem k0_off32_inb : ∀ (v400 : BitVec 32) (k0_hw24 : k0_chk24 v400), ∀ a, (k0_off32 v400) a + S1x512.size a ≤ S18x512.size a := fun v400 k0_hw24 => k0_hw24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4x84x84 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S784x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S121x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S41x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S18x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x39x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32x32x4x84x84 : Shape := ⟨5, ![32, 32, 4, 84, 84]⟩
abbrev S32x32 : Shape := ⟨2, ![32, 32]⟩
abbrev S32 : Shape := ⟨1, ![32]⟩
abbrev S784x512 : Shape := ⟨2, ![784, 512]⟩
abbrev S512 : Shape := ⟨1, ![512]⟩
abbrev S121x512 : Shape := ⟨2, ![121, 512]⟩
abbrev S41x512 : Shape := ⟨2, ![41, 512]⟩
abbrev S18x512 : Shape := ⟨2, ![18, 512]⟩
abbrev S32x1 : Shape := ⟨2, ![32, 1]⟩
abbrev S32x32x4x6x14x6x14 : Shape := ⟨7, ![32, 32, 4, 6, 14, 6, 14]⟩
abbrev S32x32x6x6x4x14x14 : Shape := ⟨7, ![32, 32, 6, 6, 4, 14, 14]⟩
abbrev S32x32x36x784 : Shape := ⟨4, ![32, 32, 36, 784]⟩
abbrev S32x32x36x512 : Shape := ⟨4, ![32, 32, 36, 512]⟩
abbrev S1x1x1x512 : Shape := ⟨4, ![1, 1, 1, 512]⟩
abbrev S_ : Shape := ⟨0, ![]⟩
abbrev S32x32x1 : Shape := ⟨3, ![32, 32, 1]⟩
abbrev S1 : Shape := ⟨1, ![1]⟩
abbrev S1x1x1 : Shape := ⟨3, ![1, 1, 1]⟩
abbrev S32x32x512 : Shape := ⟨3, ![32, 32, 512]⟩
abbrev S32x32x1x512 : Shape := ⟨4, ![32, 32, 1, 512]⟩
abbrev S32x32x39x512 : Shape := ⟨4, ![32, 32, 39, 512]⟩
abbrev S32x1248x512 : Shape := ⟨3, ![32, 1248, 512]⟩

abbrev nBuf : Space → Nat
  | .hbm => 105
  | .vmem => 0
  | .smem => 0
  | _ => 0

abbrev bufTy : (tb : Table) → Fin (tcTables nBuf tb) → BufTy
  | .hbm, ⟨0, _⟩ => ⟨S32x32x4x84x84, .f32⟩
  | .hbm, ⟨1, _⟩ => ⟨S32x32, .i32⟩
  | .hbm, ⟨2, _⟩ => ⟨S32x32, .f32⟩
  | .hbm, ⟨3, _⟩ => ⟨S32, .i32⟩
  | .hbm, ⟨4, _⟩ => ⟨S784x512, .f32⟩
  | .hbm, ⟨5, _⟩ => ⟨S512, .f32⟩
  | .hbm, ⟨6, _⟩ => ⟨S121x512, .f32⟩
  | .hbm, ⟨7, _⟩ => ⟨S41x512, .f32⟩
  | .hbm, ⟨8, _⟩ => ⟨S18x512, .f32⟩
  | .hbm, ⟨9, _⟩ => ⟨S32x1, .i32⟩
  | .hbm, ⟨10, _⟩ => ⟨S32x32, .i32⟩
  | .hbm, ⟨11, _⟩ => ⟨S32x32x4x6x14x6x14, .f32⟩
  | .hbm, ⟨12, _⟩ => ⟨S32x32x6x6x4x14x14, .f32⟩
  | .hbm, ⟨13, _⟩ => ⟨S32x32x36x784, .f32⟩
  | .hbm, ⟨14, _⟩ => ⟨S32x32x36x512, .f32⟩
  | .hbm, ⟨15, _⟩ => ⟨S1x1x1x512, .f32⟩
  | .hbm, ⟨16, _⟩ => ⟨S32x32x36x512, .f32⟩
  | .hbm, ⟨17, _⟩ => ⟨S32x32x36x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32x32, .f32⟩
  | .hbm, ⟨25, _⟩ => ⟨S32x32, .f32⟩
  | .hbm, ⟨26, _⟩ => ⟨S_, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S32x32, .i32⟩
  | .hbm, ⟨31, _⟩ => ⟨S_, .i32⟩
  | .hbm, ⟨32, _⟩ => ⟨S32x32, .i32⟩
  | .hbm, ⟨33, _⟩ => ⟨S32x32, .i1⟩
  | .hbm, ⟨34, _⟩ => ⟨S_, .i32⟩
  | .hbm, ⟨35, _⟩ => ⟨S32x32, .i32⟩
  | .hbm, ⟨36, _⟩ => ⟨S32x32, .i32⟩
  | .hbm, ⟨37, _⟩ => ⟨S32x32, .i32⟩
  | .hbm, ⟨38, _⟩ => ⟨S32x32x1, .i32⟩
  | .hbm, ⟨39, _⟩ => ⟨S1, .i32⟩
  | .hbm, ⟨40, _⟩ => ⟨S_, .i32⟩
  | .hbm, ⟨41, _⟩ => ⟨S32x32x1, .i32⟩
  | .hbm, ⟨42, _⟩ => ⟨S32x32x1, .i1⟩
  | .hbm, ⟨43, _⟩ => ⟨S1x1x1, .i32⟩
  | .hbm, ⟨44, _⟩ => ⟨S32x32x1, .i32⟩
  | .hbm, ⟨45, _⟩ => ⟨S32x32x1, .i1⟩
  | .hbm, ⟨46, _⟩ => ⟨S32x32x1, .i1⟩
  | .hbm, ⟨47, _⟩ => ⟨S_, .i1⟩
  | .hbm, ⟨48, _⟩ => ⟨S32x32, .i1⟩
  | .hbm, ⟨49, _⟩ => ⟨S32x32x512, .f32⟩
  | .hbm, ⟨50, _⟩ => ⟨S32x32x512, .i1⟩
  | .hbm, ⟨51, _⟩ => ⟨S_, .f32⟩
  | .hbm, ⟨52, _⟩ => ⟨S32x32x512, .f32⟩
  | .hbm, ⟨53, _⟩ => ⟨S32x32x512, .f32⟩
  | .hbm, ⟨54, _⟩ => ⟨S32x32x1x512, .f32⟩
  | .hbm, ⟨55, _⟩ => ⟨S_, .i32⟩
  | .hbm, ⟨56, _⟩ => ⟨S32x32, .i32⟩
  | .hbm, ⟨57, _⟩ => ⟨S32x32, .i1⟩
  | .hbm, ⟨58, _⟩ => ⟨S_, .i32⟩
  | .hbm, ⟨59, _⟩ => ⟨S32x32, .i32⟩
  | .hbm, ⟨60, _⟩ => ⟨S32x32, .i32⟩
  | .hbm, ⟨61, _⟩ => ⟨S32x32, .i32⟩
  | .hbm, ⟨62, _⟩ => ⟨S32x32x1, .i32⟩
  | .hbm, ⟨63, _⟩ => ⟨S1, .i32⟩
  | .hbm, ⟨64, _⟩ => ⟨S_, .i32⟩
  | .hbm, ⟨65, _⟩ => ⟨S32x32x1, .i32⟩
  | .hbm, ⟨66, _⟩ => ⟨S32x32x1, .i1⟩
  | .hbm, ⟨67, _⟩ => ⟨S1x1x1, .i32⟩
  | .hbm, ⟨68, _⟩ => ⟨S32x32x1, .i32⟩
  | .hbm, ⟨69, _⟩ => ⟨S32x32x1, .i1⟩
  | .hbm, ⟨70, _⟩ => ⟨S32x32x1, .i1⟩
  | .hbm, ⟨71, _⟩ => ⟨S_, .i1⟩
  | .hbm, ⟨72, _⟩ => ⟨S32x32, .i1⟩
  | .hbm, ⟨73, _⟩ => ⟨S32x32x512, .f32⟩
  | .hbm, ⟨74, _⟩ => ⟨S32x32x512, .i1⟩
  | .hbm, ⟨75, _⟩ => ⟨S_, .f32⟩
  | .hbm, ⟨76, _⟩ => ⟨S32x32x512, .f32⟩
  | .hbm, ⟨77, _⟩ => ⟨S32x32x512, .f32⟩
  | .hbm, ⟨78, _⟩ => ⟨S32x32x1x512, .f32⟩
  | .hbm, ⟨79, _⟩ => ⟨S_, .i32⟩
  | .hbm, ⟨80, _⟩ => ⟨S32x32, .i32⟩
  | .hbm, ⟨81, _⟩ => ⟨S32x32, .i1⟩
  | .hbm, ⟨82, _⟩ => ⟨S_, .i32⟩
  | .hbm, ⟨83, _⟩ => ⟨S32x32, .i32⟩
  | .hbm, ⟨84, _⟩ => ⟨S32x32, .i32⟩
  | .hbm, ⟨85, _⟩ => ⟨S32x32, .i32⟩
  | .hbm, ⟨86, _⟩ => ⟨S32x32x1, .i32⟩
  | .hbm, ⟨87, _⟩ => ⟨S1, .i32⟩
  | .hbm, ⟨88, _⟩ => ⟨S_, .i32⟩
  | .hbm, ⟨89, _⟩ => ⟨S32x32x1, .i32⟩
  | .hbm, ⟨90, _⟩ => ⟨S32x32x1, .i1⟩
  | .hbm, ⟨91, _⟩ => ⟨S1x1x1, .i32⟩
  | .hbm, ⟨92, _⟩ => ⟨S32x32x1, .i32⟩
  | .hbm, ⟨93, _⟩ => ⟨S32x32x1, .i1⟩
  | .hbm, ⟨94, _⟩ => ⟨S32x32x1, .i1⟩
  | .hbm, ⟨95, _⟩ => ⟨S_, .i1⟩
  | .hbm, ⟨96, _⟩ => ⟨S32x32, .i1⟩
  | .hbm, ⟨97, _⟩ => ⟨S32x32x512, .f32⟩
  | .hbm, ⟨98, _⟩ => ⟨S32x32x512, .i1⟩
  | .hbm, ⟨99, _⟩ => ⟨S_, .f32⟩
  | .hbm, ⟨100, _⟩ => ⟨S32x32x512, .f32⟩
  | .hbm, ⟨101, _⟩ => ⟨S32x32x512, .f32⟩
  | .hbm, ⟨102, _⟩ => ⟨S32x32x1x512, .f32⟩
  | .hbm, ⟨103, _⟩ => ⟨S32x32x39x512, .f32⟩
  | .hbm, ⟨104, _⟩ => ⟨S32x1248x512, .f32⟩
  | _, _ => ⟨S32x32x4x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v14 : Ref sig .tc := ⟨.hbm, 53, rfl⟩
abbrev main_v15 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_v14 : Ref sig .tc := ⟨.hbm, 74, rfl⟩
abbrev main_call3_cst : Ref sig .tc := ⟨.hbm, 75, rfl⟩
abbrev main_call3_v15 : Ref sig .tc := ⟨.hbm, 76, rfl⟩
abbrev main_v16 : Ref sig .tc := ⟨.hbm, 77, rfl⟩
abbrev main_v17 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_call4_cst : Ref sig .tc := ⟨.hbm, 99, rfl⟩
abbrev main_call4_v15 : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_v21 : Ref sig .tc := ⟨.hbm, 104, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal

@[expose] public section

set_option maxRecDepth 65536

noncomputable section

/-! The two printed kernels are the same program: the exact one and the one read over the extended reals differ only in
    the float operations they are given, and both are stated for any. -/

namespace Cert.Same

open Idealize.ShloMosaic Idealize.SL.Sem

variable {F : FTy → Type} [FloatOps F]

set_option maxHeartbeats 4000000 in
theorem main_same : @Cert.Kernel.main F _ Cert.Kernel.Gen.facts = @Cert.KernelIdeal.main F _ Cert.KernelIdeal.Gen.facts := by
  rfl

set_option maxHeartbeats 8000000 in
theorem defs0_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l
  match l with
  | 0 => rfl

set_option maxHeartbeats 8000000 in
theorem defs_same : @Cert.Kernel.defs F _ Cert.Kernel.Gen.facts = @Cert.KernelIdeal.defs F _ Cert.KernelIdeal.Gen.facts :=
  congrArg (Pipeline.defs (Cert.KernelIdeal.pcfgs (F := F))) defs0_same

end Cert.Same

end
-- ==== Proof.TokRun.lean ====
module

public import proofs.«01_k».proof.Proof.Gen.KernelIdeal.Frame
public import proofs.«01_k».proof.Proof.Gen.KernelIdeal.Skeleton
public import Idealize.ShloMosaic.Lib.Pointwise
public import Idealize.ShloMosaic.Lib.VecWindow

@[expose] public section

set_option maxRecDepth 16384

noncomputable section

namespace Cert.KernelIdeal.Tok

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word below the number of rows names a row of the table. -/
theorem row_inb {n : ℕ} {w : BitVec 32} (h : w.toNat < n) :
    ∀ a, (![w.toNat, 0] : Fin 2 → ℕ) a + S1x512.size a ≤ (⟨2, ![n, 512]⟩ : Shape).size a := by
  intro a; fin_cases a
  · exact h
  · exact Nat.le_refl 512

/-- The position of frame `j` of grid point `i` in a list of the 1024 frames' words. -/
def wix (i : grid0.Coords) (j : Fin 8) : S1x1024.Idx :=
  ix2 0 ⟨8 * (i 0).val + j.val, by have h : (i 0).val < 128 := (i 0).isLt; have := j.isLt; omega⟩

/-- The row of an embedding table that a word names. -/
def rowOf {n : ℕ} [NeZero n] (T : Vec F (⟨2, ![n, 512]⟩ : Shape) .f32) (w : BitVec 32) (d : Fin 512) : F .f32 :=
  T (ix2 (Fin.ofNat n w.toNat) d)

/-- The patches of one column of the 6 × 6 patch grid, projected: the body's own text, with the
    column's first pixel `o` as a parameter. -/
def patchOut (o : ℕ) (ho : S8x4x6x14x84.Slices ![0, 0, 0, 0, o] S8x4x6x14x14) (v2 : FVec F S8x4x6x14x84 .f32)
    (v3 : Vec F S784x512 .f32) (v5 : FVec F S512 .f32) : FVec F S8x6x512 .f32 :=
  shapeCast S8x6x512
    (addf
      (matmul dot_S48x784_S784x512_S48x512_1_0_0_1_n_n none
        (shapeCast S48x784
          (transpose S8x6x4x14x14 [0, 2, 1, 3, 4] (extractStridedSlice S8x4x6x14x14 ![0, 0, 0, 0, o] v2 ho)
            transposes_S8x4x6x14x14_p0_2_1_3_4_S8x6x4x14x14)
          shapeCasts_S8x6x4x14x14_S48x784)
        v3 (constant S48x512 .f32 0x00000000#32))
      (broadcastTo S48x512 (shapeCast S1x512 v5 shapeCasts_S512_S1x512) broadcasts_S1x512_S48x512))
    shapeCasts_S48x512_S8x6x512

/-- One row of patches out of a column of the grid, as the body stores it. -/
def rowOut (gh : ℕ) (hg : S8x6x512.Slices ![0, gh, 0] S8x1x512) (P : FVec F S8x6x512 .f32) : FVec F S8x1x512 .f32 :=
  shapeCast S8x1x512 (shapeCast S8x512 (extractStridedSlice S8x1x512 ![0, gh, 0] P hg) shapeCasts_S8x1x512_S8x512)
    shapeCasts_S8x512_S8x1x512

theorem slices_px (o : ℕ) (h : o + 14 ≤ 84) : S8x4x6x14x84.Slices ![0, 0, 0, 0, o] S8x4x6x14x14 := by
  refine ⟨rfl, fun a => ?_⟩
  fin_cases a
  · exact Nat.le_refl 8
  · exact Nat.le_refl 4
  · exact Nat.le_refl 6
  · exact Nat.le_refl 14
  · exact h

theorem slices_col (g : ℕ) : S8x4x6x14x84.Slices ![0, 0, 0, 0, 14 * (g % 6)] S8x4x6x14x14 :=
  slices_px _ (by have := Nat.mod_lt g (show 0 < 6 by decide); omega)

theorem slices_row (gh : ℕ) (h : gh + 1 ≤ 6) : S8x6x512.Slices ![0, gh, 0] S8x1x512 := by
  refine ⟨rfl, fun a => ?_⟩
  fin_cases a
  · exact Nat.le_refl 8
  · exact h
  · exact Nat.le_refl 512

/-- The block the body leaves: the token of every frame of grid point `i` at every place of the 39. -/
def tok (i : grid0.Coords) (x1 x2 x3 : Vec F S1x1024 .i32) (x4 : Vec F S8x4x84x84 .f32) (x5 : Vec F S784x512 .f32)
    (x6 : Vec F S1x512 .f32) (x7 : Vec F S121x512 .f32) (x8 : Vec F S41x512 .f32) (x9 : Vec F S18x512 .f32) :
    Vec F S8x39x512 .f32 := fun y =>
  if (y 1).val = 0 then rowOf x7 (x1 (wix i (y 0))) (y 2)
  else if (y 1).val = 1 then rowOf x8 (x3 (wix i (y 0))) (y 2)
  else if (y 1).val = 38 then rowOf x9 (x2 (wix i (y 0))) (y 2)
  else patchOut (14 * (((y 1).val - 2) % 6)) (slices_col _) (k0_pay4 x4) x5 (k0_pay5 x6)
    (ix3 (y 0) (Fin.ofNat 6 (((y 1).val - 2) / 6)) (y 2))

theorem rowOut_apply (gh : ℕ) (h6 : gh < 6) (hg : S8x6x512.Slices ![0, gh, 0] S8x1x512) (P : FVec F S8x6x512 .f32)
    (x : S8x1x512.Idx) : rowOut gh hg P x = P (ix3 (x 0) ⟨gh, h6⟩ (x 2)) := by
  idx_vars x
  pointwise [rowOut]

section Pieces

variable (i : grid0.Coords) (x1 x2 x3 : Vec F S1x1024 .i32) (x4 : Vec F S8x4x84x84 .f32) (x5 : Vec F S784x512 .f32)
  (x6 : Vec F S1x512 .f32) (x7 : Vec F S121x512 .f32) (x8 : Vec F S41x512 .f32) (x9 : Vec F S18x512 .f32)

theorem tok_rtg (y : S8x39x512.Idx) (h : (y 1).val = 0) :
    tok i x1 x2 x3 x4 x5 x6 x7 x8 x9 y = rowOf x7 (x1 (wix i (y 0))) (y 2) := by
  unfold tok; rw [if_pos h]

theorem tok_game (y : S8x39x512.Idx) (h : (y 1).val = 1) :
    tok i x1 x2 x3 x4 x5 x6 x7 x8 x9 y = rowOf x8 (x3 (wix i (y 0))) (y 2) := by
  unfold tok; rw [if_neg (by omega), if_pos h]

theorem tok_act (y : S8x39x512.Idx) (h : (y 1).val = 38) :
    tok i x1 x2 x3 x4 x5 x6 x7 x8 x9 y = rowOf x9 (x2 (wix i (y 0))) (y 2) := by
  unfold tok; rw [if_neg (by omega), if_neg (by omega), if_pos h]

theorem tok_patch (y : S8x39x512.Idx) (h0 : 2 ≤ (y 1).val) (h1 : (y 1).val < 38) :
    tok i x1 x2 x3 x4 x5 x6 x7 x8 x9 y = patchOut (14 * (((y 1).val - 2) % 6)) (slices_col _) (k0_pay4 x4) x5 (k0_pay5 x6)
      (ix3 (y 0) (Fin.ofNat 6 (((y 1).val - 2) / 6)) (y 2)) := by
  unfold tok; rw [if_neg (by omega), if_neg (by omega), if_neg (by omega)]

/-- What the body stores at a patch's place is the block there. -/
theorem piece_patch {v0 : Vec F S8x4x84x84 .f32} {v3 : Vec F S784x512 .f32} {v4 : Vec F S1x512 .f32}
    (h0 : v0 = x4) (h3 : v3 = x5) (h4 : v4 = x6) (s gh o : ℕ)
    (hs : 2 ≤ s ∧ s < 38 ∧ gh = (s - 2) / 6 ∧ o = 14 * ((s - 2) % 6))
    (hg : S8x6x512.Slices ![0, gh, 0] S8x1x512) (ho : S8x4x6x14x84.Slices ![0, 0, 0, 0, o] S8x4x6x14x14)
    (inb : ∀ a, (![0, s, 0] : Fin 3 → ℕ) a + S8x1x512.size a ≤ S8x39x512.size a) (x : S8x1x512.Idx) :
    rowOut gh hg (patchOut o ho (k0_pay4 v0) v3 (k0_pay5 v4)) x
      = tok i x1 x2 x3 x4 x5 x6 x7 x8 x9 ((Rect.unit (s := S8x39x512) ![0, s, 0] S8x1x512.size inb).emb x) := by
  obtain ⟨hs2, hs38, rfl, rfl⟩ := hs
  subst h0 h3 h4
  have hx : (x 1).val = 0 := Nat.lt_one_iff.mp (x 1).isLt
  have e1 : (((Rect.unit (s := S8x39x512) ![0, s, 0] S8x1x512.size inb).emb x) 1).val = s := by
    show s + 1 * (x 1).val = s; omega
  have e0 : ((Rect.unit (s := S8x39x512) ![0, s, 0] S8x1x512.size inb).emb x) 0 = x 0 :=
    Fin.ext (by show 0 + 1 * (x 0).val = (x 0).val; omega)
  have e2 : ((Rect.unit (s := S8x39x512) ![0, s, 0] S8x1x512.size inb).emb x) 2 = x 2 :=
    Fin.ext (by show 0 + 1 * (x 2).val = (x 2).val; omega)
  rw [tok_patch _ _ _ _ _ _ _ _ _ _ _ (by omega) (by omega), rowOut_apply _ (by omega)]
  have e3 : Fin.ofNat 6 ((s - 2) / 6) = ⟨(s - 2) / 6, by omega⟩ := Fin.ext (Nat.mod_eq_of_lt (by omega))
  simp only [e0, e1, e2, e3]

/-- What the body stores at an embedding row's place is the block there: the row of the table `arg`
    that frame `j`'s word in `argw` names. -/
theorem piece_row {n : ℕ} [NeZero n] (arg : Memref sig .tc .vmem (⟨2, ![n, 512]⟩ : Shape) .f32) (f : arg.view.ty.Contents (Elt F))
    (argw : Memref sig .tc .smem S1x1024 .i32) (fw : argw.view.ty.Contents (Elt F)) (j s : ℕ) (hj : j < 8)
    (X : Vec F S8x39x512 .f32)
    (hX : ∀ y : S8x39x512.Idx, (y 1).val = s →
      X y = rowOf (arg.view.read (Elt F) f) (argw.view.read (Elt F) fw (wix i (y 0))) (y 2))
    (hw : ∀ y, (argw.view.read (Elt F) fw y : BitVec 32).toNat < n)
    {offw : Fin 2 → ℕ} (hoffw : offw = ![0, 8 * (i 0).val + j]) (inbw : ∀ a, offw a + S1x1.size a ≤ S1x1024.size a) (p : S1x1.Idx)
    {w : BitVec 32} (hwd : w = argw.view.read (Elt F) fw ((Rect.unit (s := S1x1024) offw S1x1.size inbw).toLoadRect.idx p))
    {off : Fin 2 → ℕ} (hoff : off = ![w.toNat, 0])
    (inb : ∀ a, off a + S1x512.size a ≤ (⟨2, ![n, 512]⟩ : Shape).size a)
    (inb8 : ∀ a, (![j, s, 0] : Fin 3 → ℕ) a + S1x1x512.size a ≤ S8x39x512.size a) (x : S1x1x512.Idx) :
    shapeCast S1x1x512
        (arg.view.readAt (Elt F) (Rect.unit (s := (⟨2, ![n, 512]⟩ : Shape)) off S1x512.size inb).toLoadRect f) shapeCasts_S1x512_S1x1x512 x
      = X ((Rect.unit (s := S8x39x512) ![j, s, 0] S1x1x512.size inb8).emb x) := by
  subst hoff hoffw
  have hx0 : (x 0).val = 0 := Nat.lt_one_iff.mp (x 0).isLt
  have hx1 : (x 1).val = 0 := Nat.lt_one_iff.mp (x 1).isLt
  have e1 : (((Rect.unit (s := S8x39x512) ![j, s, 0] S1x1x512.size inb8).emb x) 1).val = s := by
    show s + 1 * (x 1).val = s; omega
  have e0 : ((Rect.unit (s := S8x39x512) ![j, s, 0] S1x1x512.size inb8).emb x) 0 = (⟨j, hj⟩ : Fin 8) :=
    Fin.ext (by show j + 1 * (x 0).val = j; omega)
  have e2 : ((Rect.unit (s := S8x39x512) ![j, s, 0] S1x1x512.size inb8).emb x) 2 = x 2 :=
    Fin.ext (by show 0 + 1 * (x 2).val = (x 2).val; omega)
  have hwn : w.toNat < n := by rw [hwd]; exact hw _
  have ew : w = argw.view.read (Elt F) fw (wix i ⟨j, hj⟩) := by
    rw [hwd]
    refine congrArg _ (funext fun a => Fin.ext ?_)
    have hp0 : (p 0).val = 0 := Nat.lt_one_iff.mp (p 0).isLt
    have hp1 : (p 1).val = 0 := Nat.lt_one_iff.mp (p 1).isLt
    fin_cases a
    · show 0 + 1 * (p 0).val = 0; omega
    · show (8 * (i 0).val + j) + 1 * (p 1).val = 8 * (i 0).val + j; omega
  rw [hX _ e1, e0, e2, ← ew]
  have hc : ∀ v : S1x512.Idx → F .f32, shapeCast S1x1x512 v shapeCasts_S1x512_S1x1x512 x = v (ix2 0 (x 2)) := by
    intro v; idx_vars x; pointwise
  rw [hc]
  unfold rowOf
  refine congrArg (arg.view.read (Elt F) f) (funext fun a => Fin.ext ?_)
  fin_cases a
  · show w.toNat + 1 * 0 = w.toNat % n
    rw [Nat.mod_eq_of_lt hwn]; rfl
  · show 0 + 1 * (x 2).val = (x 2).val; omega

end Pieces

set_option maxHeartbeats 4000000 in
theorem kernel_run (c : Dev nD) (i : grid0.Coords)
    (arg1 : Memref sig .tc .smem S1x1024 .i32) (harg1 : arg1.IsWhole) (arg2 : Memref sig .tc .smem S1x1024 .i32) (harg2 : arg2.IsWhole)
    (arg3 : Memref sig .tc .smem S1x1024 .i32) (harg3 : arg3.IsWhole) (arg4 : Memref sig .tc .vmem S8x4x84x84 .f32) (harg4 : arg4.IsWhole)
    (arg5 : Memref sig .tc .vmem S784x512 .f32) (harg5 : arg5.IsWhole) (arg6 : Memref sig .tc .vmem S1x512 .f32) (harg6 : arg6.IsWhole)
    (arg7 : Memref sig .tc .vmem S121x512 .f32) (harg7 : arg7.IsWhole) (arg8 : Memref sig .tc .vmem S41x512 .f32) (harg8 : arg8.IsWhole)
    (arg9 : Memref sig .tc .vmem S18x512 .f32) (harg9 : arg9.IsWhole) (arg10 : Memref sig .tc .vmem S8x39x512 .f32) (harg10 : arg10.IsWhole)
    (x1 x2 x3 : Vec F S1x1024 .i32) (x4 : Vec F S8x4x84x84 .f32) (x5 : Vec F S784x512 .f32) (x6 : Vec F S1x512 .f32)
    (x7 : Vec F S121x512 .f32) (x8 : Vec F S41x512 .f32) (x9 : Vec F S18x512 .f32)
    (h1 : ∀ y, (x1 y : BitVec 32).toNat < 121) (h2 : ∀ y, (x2 y : BitVec 32).toNat < 18) (h3 : ∀ y, (x3 y : BitVec 32).toNat < 41)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg10 fullShare (tok i x1 x2 x3 x4 x5 x6 x7 x8 x9)) -∗ K ⟨⟩))
      ⊢ wp frame (wpE (defs₀ (F := F)) Variants.none c none) Set.univ
        (cc0__tok_kernel i arg1 harg1 arg2 harg2 arg3 harg3 arg4 harg4 arg5 harg5 arg6 harg6 arg7 harg7 arg8 harg8 arg9 harg9 arg10 harg10) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  simp only [cc0__tok_kernel_eq_skeleton]; unfold cc0__tok_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  sl_exec (disch := first
    | (refine row_inb (n := 121) ?_; exact h1 _) | (refine row_inb (n := 18) ?_; exact h2 _) | (refine row_inb (n := 41) ?_; exact h3 _))
  dsimp only
  sl_step
  iapply Hk
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]; · iexists f4; isplitr [H4]; · ipureintro; rfl
                  iexact H4
  isplitl [H5]; · iexists f5; isplitr [H5]; · ipureintro; rfl
                  iexact H5
  isplitl [H6]; · iexists f6; isplitr [H6]; · ipureintro; rfl
                  iexact H6
  isplitl [H7]; · iexists f7; isplitr [H7]; · ipureintro; rfl
                  iexact H7
  isplitl [H8]; · iexists f8; isplitr [H8]; · ipureintro; rfl
                  iexact H8
  isplitl [H9]; · iexists f9; isplitr [H9]; · ipureintro; rfl
                  iexact H9
  iexists _
  isplitr [H10]
  rotate_left
  · iexact H10
  · ipureintro
    funext y
    refine View.read_writes_apply_of_pieces _ _ _ _ ?_ y ?_
    · iterate 8
        refine List.forall_mem_cons.2 ⟨fun x => piece_row i arg9 f9 arg2 f2 _ _ (by decide) _ (tok_act i _ _ _ _ _ _ _ _ _) h2 (by first
            | exact k0_off29_eq i | exact k0_off25_eq i | exact k0_off21_eq i | exact k0_off17_eq i | exact k0_off13_eq i
            | exact k0_off9_eq i | exact k0_off5_eq i | exact k0_off1_eq i) _ _ rfl rfl _ (by decide) x, ?_⟩
        refine List.forall_mem_cons.2 ⟨fun x => piece_row i arg8 f8 arg3 f3 _ _ (by decide) _ (tok_game i _ _ _ _ _ _ _ _ _) h3 (by first
            | exact k0_off29_eq i | exact k0_off25_eq i | exact k0_off21_eq i | exact k0_off17_eq i | exact k0_off13_eq i
            | exact k0_off9_eq i | exact k0_off5_eq i | exact k0_off1_eq i) _ _ rfl rfl _ (by decide) x, ?_⟩
        refine List.forall_mem_cons.2 ⟨fun x => piece_row i arg7 f7 arg1 f1 _ _ (by decide) _ (tok_rtg i _ _ _ _ _ _ _ _ _) h1 (by first
            | exact k0_off29_eq i | exact k0_off25_eq i | exact k0_off21_eq i | exact k0_off17_eq i | exact k0_off13_eq i
            | exact k0_off9_eq i | exact k0_off5_eq i | exact k0_off1_eq i) _ _ rfl rfl _ (by decide) x, ?_⟩
      iterate 36
        refine List.forall_mem_cons.2 ⟨fun x => piece_patch i _ _ _ _ _ _ _ _ _ (View.readAt_full _ _ _) (View.readAt_full _ _ _)
          (View.readAt_full _ _ _) _ _ _ (by decide)
          (slices_row _ (by decide)) (slices_px _ (by decide)) (by decide) x, ?_⟩
      exact fun _ h => absurd h List.not_mem_nil
    · exact View.cover_of_tiledBy (s := S8x39x512) _ ![1, 1, 512] (by sl_kernel_rfl) y

end Cert.KernelIdeal.Tok

end
-- ==== Proof.Run.lean ====
module

public import proofs.«01_k».proof.Proof.TokRun

@[expose] public section

set_option maxRecDepth 16384

noncomputable section

namespace Cert.KernelIdeal.Tok

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every word the body reads its table rows by names a row of its table. -/
structure Ids : Prop where
  rtg : ∀ (c : Dev nD) y, (V m c main_v8 y : BitVec 32).toNat < 121
  act : ∀ (c : Dev nD) y, (V m c main_v9 y : BitVec 32).toNat < 18
  game : ∀ (c : Dev nD) y, (V m c main_v10 y : BitVec 32).toNat < 41

/-- The block of tokens of grid point `t`, from the blocks its windows hold. -/
def tokAt (c : Dev nD) (t : Fin cfg0.N) : Vec F S8x39x512 .f32 :=
  tok (grid0.coords t) (iblk m c 0 t) (iblk m c 1 t) (iblk m c 2 t) (iblk m c 3 t) (iblk m c 4 t) (iblk m c 5 t)
    (iblk m c 6 t) (iblk m c 7 t) (iblk m c 8 t)

/-- The proof data of the one pipeline: what each window holds after the body of each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tokAt m c t
  Φ _ := Pipeline.ΦA spec0 c
  q _ := fullShare
  owed _ := 0

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = tokAt m c t := by dsimp only [dats]
theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d
theorem before0_7 (c : Dev nD) (t : Fin cfg0.N) (d) : (dats m 0 c).before 7 t d = iblk m c 7 t :=
  before0_7_of m (dats m 0 c) rfl (after0_7 m c) t d
theorem before0_8 (c : Dev nD) (t : Fin cfg0.N) (d) : (dats m 0 c).before 8 t d = iblk m c 8 t :=
  before0_8_of m (dats m 0 c) rfl (after0_8 m c) t d

/-- What the body of point `t` is run on: the invariant, nothing owed, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
theorem sound_body (hid : Ids m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernel_run c (grid0.coords t) _ _ _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) (iblk m c 8 t)
    (fun y => hid.rtg c _) (fun y => hid.act c _) (fun y => hid.game c _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (hid : Ids m) (c : Dev nD) :
    BodyObligation (dats (F := F) m 0 c) (defs₀ (F := F)) Variants.none () Set.univ := fun t => by
  rw [bigSep_W0, bigSep_W0]; exact sound_body m hid c t

set_option backward.isDefEq.respectTransparency.types false in
/-- The whole program from any state whose words name rows: it ends, its arrays as the pipeline leaves
    them, every other buffer as the lines after the region leave it, every semaphore at zero. -/
theorem run_main (hid : Ids m) : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around cfgs (dats m) 0 launch0 defs₀ Variants.none m ρ main
    (hbody := fun c => (body_obligation m hid c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)
    (Q' := fun r => Pipeline.FramePost cfgs (dats m) 0 (Pipeline.afterTail₀ cfgs (dats m) 0 (V0 m) [hostOps1]) r
      ∧ r.2.sem = fun _ => 0) (hQ' := fun _ h => h)

end Cert.KernelIdeal.Tok

end
-- ==== Proof.Entry.lean ====
module

public import proofs.«01_k».proof.Proof.Run
public import Idealize.ShloMosaic.Lib.Claim

@[expose] public section

set_option maxRecDepth 16384

noncomputable section

namespace Cert.KernelIdeal.Tok

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The return-to-go bins: the clipped value's distance from the lower bound, rounded and made an integer. -/
def bins (x : FVec F S32x32 .f32) : IVec S32x32 32 :=
  fptosi 32 (Host.roundeven (subf
    (minimumf (broadcastInDim S32x32 ![] bcast_S_S32x32 (constant S_ .f32 0x42C80000#32))
      (maximumf (broadcastInDim S32x32 ![] bcast_S_S32x32 (constant S_ .f32 0xC1A00000#32)) x))
    (broadcastInDim S32x32 ![] bcast_S_S32x32 (constant S_ .f32 0xC1A00000#32))))

/-- Every frame's game id: each row's own, over the whole row. -/
def games (x : IVec S32 32) : IVec S32x32 32 :=
  broadcastInDim S32x32 ![0, 1] bcast_S32x1_S32x32_0_1 (broadcastInDim S32x1 ![0] bcast_S32_S32x1_0 x)

variable (m : (ℓ : Loc nD τ sig) → Buf (Elt F) ℓ) (ρ : Dev nD → PrngReg)

theorem V_v0 (c : Dev nD) : V m c main_v0 = shapeCast S1024x4x84x84 (m ((c : Thread nD τ).loc main_arg0)) shapeCasts_S32x32x4x84x84_S1024x4x84x84 := by
  unfold V V0; simp only [List.flatten_cons, List.flatten_nil, List.append_nil, List.cons_append, List.nil_append]; after_results <;> rfl
theorem V_v5 (c : Dev nD) : V m c main_v5 = bins (m ((c : Thread nD τ).loc main_arg2)) := by
  unfold bins V V0; simp only [List.flatten_cons, List.flatten_nil, List.append_nil, List.cons_append, List.nil_append]; after_results <;> rfl
theorem V_v7 (c : Dev nD) : V m c main_v7 = games (m ((c : Thread nD τ).loc main_arg3)) := by
  unfold games V V0; simp only [List.flatten_cons, List.flatten_nil, List.append_nil, List.cons_append, List.nil_append]; after_results <;> rfl
theorem V_v8 (c : Dev nD) : V m c main_v8 = shapeCast S1x1024 (bins (m ((c : Thread nD τ).loc main_arg2))) shapeCasts_S32x32_S1x1024 := by
  unfold bins V V0; simp only [List.flatten_cons, List.flatten_nil, List.append_nil, List.cons_append, List.nil_append]; after_results <;> rfl
theorem V_v9 (c : Dev nD) : V m c main_v9 = shapeCast S1x1024 (m ((c : Thread nD τ).loc main_arg1)) shapeCasts_S32x32_S1x1024 := by
  unfold V V0; simp only [List.flatten_cons, List.flatten_nil, List.append_nil, List.cons_append, List.nil_append]; after_results <;> rfl
theorem V_v10 (c : Dev nD) : V m c main_v10 = shapeCast S1x1024 (games (m ((c : Thread nD τ).loc main_arg3))) shapeCasts_S32x32_S1x1024 := by
  unfold games V V0; simp only [List.flatten_cons, List.flatten_nil, List.append_nil, List.cons_append, List.nil_append]; after_results <;> rfl
theorem V_v11 (c : Dev nD) : V m c main_v11 = shapeCast S1x512 (m ((c : Thread nD τ).loc main_arg5)) shapeCasts_S512_S1x512 := by
  unfold V V0; simp only [List.flatten_cons, List.flatten_nil, List.append_nil, List.cons_append, List.nil_append]; after_results <;> rfl

/-- The words the body reads name rows, when the bins, the action ids and the game ids do. -/
theorem ids_of (hr : ∀ (c : Dev nD) y, (bins (F := F) (m ((c : Thread nD τ).loc main_arg2)) y).toNat < 121)
    (ha : ∀ (c : Dev nD) y, (m ((c : Thread nD τ).loc main_arg1) y : BitVec 32).toNat < 18)
    (hg : ∀ (c : Dev nD) y, (m ((c : Thread nD τ).loc main_arg3) y : BitVec 32).toNat < 41) : Ids m where
  rtg c y := by rw [V_v8]; exact hr c _
  act c y := by rw [V_v9]; exact ha c _
  game c y := by rw [V_v10]; exact hg c _

/-- The frame: the program ends, its arguments unchanged and its semaphores at zero. -/
theorem frame (hid : Ids m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (fun _ _ => rfl) ((θ_run defs _ _).mono (fun _ h => h.1) (run_main m ρ hid)))
    ((θ_run defs _ _).mono (fun _ h => h.2) (run_main m ρ hid))

end Cert.KernelIdeal.Tok

end
-- ==== Proof.Bounds.lean ====
module

public import proofs.«01_k».proof.Proof.Entry
public import proofs.«01_k».proof.Proof.Gen.Pre_ids_and_bins_in_tables
public import proofs.«01_k».proof.Proof.Gen.Pre_ids_in_tables
public import Idealize.ShloMosaic.Lib.IdealHost

@[expose] public section

set_option maxRecDepth 16384

noncomputable section

namespace Cert.Bounds

open Idealize.ShloMosaic Idealize.SL.Sem
open Cert.KernelIdeal (S32x32x4x84x84 S32x32 S32 S784x512 S512 S121x512 S41x512 S18x512)

variable {F : FTy → Type} [FloatOps F]

/-- A word between zero and `n`, as the signed comparisons say it, is below `n`. -/
theorem word_lt {w : BitVec 32} {n : Nat} (hn : n < 2 ^ 31)
    (h : IntOp.andi (IntOp.cmpi .sge w 0#32) (IntOp.cmpi .slt w (BitVec.ofNat 32 n)) = 1#1) : w.toNat < n := by
  have conj (p q : Bool) : IntOp.andi (BitVec.ofBool p) (BitVec.ofBool q) = 1#1 → p = true ∧ q = true := by
    cases p <;> cases q <;> decide
  obtain ⟨h₁, h₂⟩ := conj _ _ h
  simp only [BitVec.sle, BitVec.slt, decide_eq_true_eq, BitVec.toInt, BitVec.toNat_ofNat] at h₁ h₂
  have := w.isLt
  rw [Nat.mod_eq_of_lt (by omega : n < 2 ^ 32)] at h₂
  split at h₁ <;> split at h₂ <;> omega

/-- Two flags whose conjunction is set are both set. -/
theorem both {p q : BitVec 1} (h : IntOp.andi p q = 1#1) : p = 1#1 ∧ q = 1#1 := by
  revert p q; decide

/-- The same from the two flags. -/
theorem word_lt' {w : BitVec 32} {n : Nat} (hn : n < 2 ^ 31) (h₁ : IntOp.cmpi .sge w 0#32 = 1#1)
    (h₂ : IntOp.cmpi .slt w (BitVec.ofNat 32 n) = 1#1) : w.toNat < n :=
  word_lt hn (by rw [h₁, h₂]; rfl)

variable (a0 : FVec F S32x32x4x84x84 .f32) (a1 : IVec S32x32 32) (a2 : FVec F S32x32 .f32) (a3 : IVec S32 32)
  (a4 : FVec F S784x512 .f32) (a5 : FVec F S512 .f32) (a6 : FVec F S121x512 .f32) (a7 : FVec F S41x512 .f32)
  (a8 : FVec F S18x512 .f32)

/-- A comparison of the game ids, spread over the frames, is at each frame its row's. -/
theorem game_flag (x : IVec S32 32) (p : CmpIPredicate) (n : BitVec 32) (i : Fin 32) :
    broadcastInDim Cert.Pre_ids_in_tables.S32x32 ![0, 1] Cert.Pre_ids_in_tables.Gen.bcast_S32x1_S32x32_0_1
      (cmpi p (broadcastInDim Cert.Pre_ids_in_tables.S32x1 ![0] Cert.Pre_ids_in_tables.Gen.bcast_S32_S32x1_0 x)
        (broadcastInDim Cert.Pre_ids_in_tables.S32x1 ![] Cert.Pre_ids_in_tables.Gen.bcast_S_S32x1
          (constantI Cert.Pre_ids_in_tables.S_ 32 n))) (ix2 i 0) = IntOp.cmpi p (x (ix1 i)) n := by
  pointwise

/-- What the precondition on the ids says at each word. -/
theorem ids (h : Cert.Pre_ids_in_tables.fn (F := F) a0 a1 a2 a3 a4 a5 a6 a7 a8 = fun _ => 1#1) :
    (∀ y, (a1 y).toNat < 18) ∧ ∀ y, (a3 y).toNat < 41 := by
  have k (y : S32x32.Idx) := both (congrFun h y)
  have l (y : S32x32.Idx) := both (k y).1
  refine ⟨fun y => word_lt (n := 18) (by decide) (l y).1, fun y => ?_⟩
  have e (i : Fin 32) : (a3 (ix1 i)).toNat < 41 :=
    word_lt' (n := 41) (by decide) ((game_flag a3 _ _ i).symm.trans (l (ix2 i 0)).2)
      ((game_flag a3 _ _ i).symm.trans (k (ix2 i 0)).2)
  rw [← ix1_eta y]
  exact e _

/-- What the precondition on the ids and the bins says at each word. -/
theorem ids_bins (h : Cert.Pre_ids_and_bins_in_tables.fn (F := F) a0 a1 a2 a3 a4 a5 a6 a7 a8 = fun _ => 1#1) :
    (∀ y, (Cert.KernelIdeal.Tok.bins a2 y).toNat < 121) ∧ (∀ y, (a1 y).toNat < 18) ∧ ∀ y, (a3 y).toNat < 41 := by
  have k (y : S32x32.Idx) := both (congrFun h y)
  have l (y : S32x32.Idx) := both (k y).1
  refine ⟨fun y => word_lt' (n := 121) (by decide) (l y).2 (k y).2, ?_⟩
  exact ids a0 a1 a2 a3 a4 a5 a6 a7 a8 (funext fun y => (l y).1)

theorem lit_lo : Ideal.ofBits .f32 0xC1A00000#32 = ((-20 : ℝ) : EReal) := by
  simp [Ideal.ofBits, Ideal.ieee, -EReal.coe_mul, -EReal.coe_neg]; norm_num
theorem lit_hi : Ideal.ofBits .f32 0x42C80000#32 = ((100 : ℝ) : EReal) := by
  simp [Ideal.ofBits, Ideal.ieee, -EReal.coe_mul]; norm_num

/-- A real between two integers rounds to an integer between them. -/
theorem round_mem {r : ℝ} {a b : ℤ} (h₀ : (a : ℝ) ≤ r) (h₁ : r ≤ (b : ℝ)) :
    a ≤ Ideal.roundHalfEven r ∧ Ideal.roundHalfEven r ≤ b := by
  have f₀ : a ≤ ⌊r⌋ := Int.le_floor.mpr h₀
  have f₁ : ⌊r⌋ ≤ b := by exact_mod_cast (Int.floor_le r).trans h₁
  have up : ¬ r - (⌊r⌋ : ℝ) < 1 / 2 → ⌊r⌋ + 1 ≤ b := fun hr => by
    by_contra hb
    have e : ⌊r⌋ = b := by omega
    rw [e] at hr
    exact hr (by linarith)
  unfold Ideal.roundHalfEven
  dsimp only
  split
  · exact ⟨f₀, f₁⟩
  · rename_i hr
    have := up hr
    split
    · omega
    · split <;> omega

/-- Over the extended reals every bin is in its table: the clipped value is between the two bounds, so its distance from
    the lower one is a real between zero and 120, and rounding keeps it there. -/
theorem bins_lt (x : FVec Ideal S32x32 .f32) (y : S32x32.Idx) : (Cert.KernelIdeal.Tok.bins x y).toNat < 121 := by
  show (Ideal.fptosi 32 (Ideal.liftRound Ideal.roundHalfEven
    (min (Ideal.ofBits .f32 0x42C80000#32) (max (Ideal.ofBits .f32 0xC1A00000#32) (x y))
      - Ideal.ofBits .f32 0xC1A00000#32))).toNat < 121
  rw [lit_lo, lit_hi]
  obtain ⟨r, h₀, h₁, e⟩ : ∃ r : ℝ, -20 ≤ r ∧ r ≤ 100 ∧
      min ((100 : ℝ) : EReal) (max ((-20 : ℝ) : EReal) (x y)) = (r : EReal) := by
    generalize (x y : EReal) = z
    induction z using EReal.rec with
    | bot => exact ⟨-20, by norm_num, by norm_num, by rw [max_eq_left bot_le, min_eq_right]; exact_mod_cast (by norm_num : (-20 : ℝ) ≤ 100)⟩
    | top => exact ⟨100, by norm_num, by norm_num, by rw [max_eq_right le_top, min_eq_left le_top]⟩
    | coe z => exact ⟨min 100 (max (-20) z), le_min (by norm_num) (le_max_left _ _), min_le_left _ _, by
        rw [EReal.coe_strictMono.monotone.map_min, EReal.coe_strictMono.monotone.map_max]⟩
  rw [e, ← EReal.coe_sub, Ideal.liftRound_coe]
  obtain ⟨g₀, g₁⟩ := round_mem (r := r - -20) (a := 0) (b := 120) (by push_cast; linarith) (by push_cast; linarith)
  generalize Ideal.roundHalfEven (r - -20) = n at g₀ g₁
  have hn : (0 : ℝ) ≤ (n : ℝ) := by exact_mod_cast g₀
  have t : Ideal.toIntClamped (-(2 ^ (32 - 1) : Nat)) ((2 ^ (32 - 1) : Nat) - 1) ((n : ℝ) : EReal) = n := by
    show max _ (min _ (if (0 : ℝ) ≤ (n : ℝ) then ⌊(n : ℝ)⌋ else ⌈(n : ℝ)⌉)) = n
    rw [if_pos hn, Int.floor_intCast]
    omega
  unfold Ideal.fptosi
  rw [t, BitVec.toNat_ofInt]
  omega

end Cert.Bounds

end
-- ==== Proof.RefRun.lean ====
module

public import proofs.«01_k».proof.Defs
public import proofs.«01_k».proof.Proof.Gen.ReferenceIdeal
public import Idealize.ShloMosaic.Lib.Pipeline.Regions
public import Idealize.ShloMosaic.Lib.Claim
public import Idealize.ShloMosaic.Lib.StableHlo.RunRead

@[expose] public section

set_option maxRecDepth 16384

noncomputable section

/-! The reference as the list of its operations, a table lookup written once for its three uses, and its run. -/

namespace Cert.ReferenceIdeal.Tok

open Cert.ReferenceIdeal Cert.ReferenceIdeal.Gen
open Idealize.ShloMosaic Idealize.ShloMosaic.TcCoe Idealize.SL.Sem

variable {F : FTy → Type} [FloatOps F]

/-- The game ids, the patches and their products. -/
abbrev ops0 : List (HloOp τ sig (Elt F)) :=
  [ StableHlo.unary main_arg3 main_v0 (broadcastInDim S32x1 ![0] bcast_S32_S32x1_0 : (⟨S32, .i32⟩ : BufTy).Contents (Elt F) → (⟨S32x1, .i32⟩ : BufTy).Contents (Elt F)),
    StableHlo.unary main_v0 main_v1 (broadcastInDim S32x32 ![0, 1] bcast_S32x1_S32x32_0_1 : (⟨S32x1, .i32⟩ : BufTy).Contents (Elt F) → (⟨S32x32, .i32⟩ : BufTy).Contents (Elt F)),
    StableHlo.reshape main_arg0 main_v2 (rfl : (.f32 : EltTy) = .f32) shapeCasts_S32x32x4x84x84_S32x32x4x6x14x6x14,
    StableHlo.unary main_v2 main_v3 ((transpose S32x32x6x6x4x14x14 [0, 1, 3, 5, 2, 4, 6] · transposes_S32x32x4x6x14x6x14_S32x32x6x6x4x14x14_0_1_3_5_2_4_6) : (⟨S32x32x4x6x14x6x14, .f32⟩ : BufTy).Contents (Elt F) → (⟨S32x32x6x6x4x14x14, .f32⟩ : BufTy).Contents (Elt F)),
    StableHlo.reshape main_v3 main_v4 (rfl : (.f32 : EltTy) = .f32) shapeCasts_S32x32x6x6x4x14x14_S32x32x36x784,
    StableHlo.binary main_v4 main_arg4 main_v5 ((fun l r => Host.dotGeneral dot_S32x32x36x784_S784x512_S32x32x36x512_3_0_012_1_n_n none l r) : (⟨S32x32x36x784, .f32⟩ : BufTy).Contents (Elt F) → (⟨S784x512, .f32⟩ : BufTy).Contents (Elt F) → (⟨S32x32x36x512, .f32⟩ : BufTy).Contents (Elt F)),
    StableHlo.unary main_arg5 main_v6 (broadcastInDim S1x1x1x512 ![3] bcast_S512_S1x1x1x512_3 : (⟨S512, .f32⟩ : BufTy).Contents (Elt F) → (⟨S1x1x1x512, .f32⟩ : BufTy).Contents (Elt F)),
    StableHlo.unary main_v6 main_v7 (broadcastInDim S32x32x36x512 ![0, 1, 2, 3] bcast_S1x1x1x512_S32x32x36x512_0_1_2_3 : (⟨S1x1x1x512, .f32⟩ : BufTy).Contents (Elt F) → (⟨S32x32x36x512, .f32⟩ : BufTy).Contents (Elt F)),
    StableHlo.binary main_v5 main_v7 main_v8 (addf : (⟨S32x32x36x512, .f32⟩ : BufTy).Contents (Elt F) → (⟨S32x32x36x512, .f32⟩ : BufTy).Contents (Elt F) → (⟨S32x32x36x512, .f32⟩ : BufTy).Contents (Elt F)),
    StableHlo.nullary main_cst (constant S_ .f32 0xC1A00000#32),
    StableHlo.nullary main_cst_0 (constant S_ .f32 0x42C80000#32) ]
/-- The clip of the returns. -/
abbrev ops1 : List (HloOp τ sig (Elt F)) :=
  [ StableHlo.TRef.unary (.of main_cst) main_call0.v0 id,
    StableHlo.TRef.unary main_call0.v0 main_call0.v1 (broadcastInDim S32x32 ![] bcast_S_S32x32),
    StableHlo.TRef.binary main_call0.v1 (.of main_arg2) main_call0.v2 maximumf,
    StableHlo.TRef.unary (.of main_cst_0) main_call0.v3 id,
    StableHlo.TRef.unary main_call0.v3 main_call0.v4 (broadcastInDim S32x32 ![] bcast_S_S32x32),
    StableHlo.TRef.binary main_call0.v4 main_call0.v2 main_call0.v5 minimumf ]
/-- The distance from the lower bound. -/
abbrev ops2 : List (HloOp τ sig (Elt F)) :=
  [ StableHlo.nullary main_cst_1 (constant S_ .f32 0xC1A00000#32),
    StableHlo.unary main_cst_1 main_v10 (broadcastInDim S32x32 ![] bcast_S_S32x32 : (⟨S_, .f32⟩ : BufTy).Contents (Elt F) → (⟨S32x32, .f32⟩ : BufTy).Contents (Elt F)),
    StableHlo.binary main_v9 main_v10 main_v11 (subf : (⟨S32x32, .f32⟩ : BufTy).Contents (Elt F) → (⟨S32x32, .f32⟩ : BufTy).Contents (Elt F) → (⟨S32x32, .f32⟩ : BufTy).Contents (Elt F)) ]
/-- The rounding. -/
abbrev ops3 : List (HloOp τ sig (Elt F)) :=
  [ StableHlo.TRef.unary (.of main_v11) main_call1.v0 Host.roundeven ]
/-- The bins. -/
abbrev ops4 : List (HloOp τ sig (Elt F)) :=
  [ StableHlo.unary main_v12 main_v13 (fptosi 32 : (⟨S32x32, .f32⟩ : BufTy).Contents (Elt F) → (⟨S32x32, .i32⟩ : BufTy).Contents (Elt F)) ]
/-- A lookup of the rows of a table that the ids name, over the buffers of one use of it. -/
abbrev takeOps {N : Nat} (n k : BitVec 32) (g : GatherDims ⟨2, ![N, 512]⟩ S32x32x1 S32x32x512) (table : StableHlo.TRef sig ⟨⟨2, ![N, 512]⟩, .f32⟩)
    (ids : StableHlo.TRef sig ⟨S32x32, .i32⟩) (φ : fn_take.Bufs) : List (HloOp τ sig (Elt F)) :=
  [ StableHlo.TRef.nullary φ.c (constantI S_ 32 0#32),
    StableHlo.TRef.unary φ.c φ.v0 (broadcastInDim S32x32 ![] bcast_S_S32x32),
    StableHlo.TRef.binary ids φ.v0 φ.v1 (cmpi .slt),
    StableHlo.TRef.nullary φ.c_0 (constantI S_ 32 n),
    StableHlo.TRef.unary φ.c_0 φ.v2 (broadcastInDim S32x32 ![] bcast_S_S32x32),
    StableHlo.TRef.binary ids φ.v2 φ.v3 addi,
    StableHlo.TRef.ternary φ.v1 φ.v3 ids φ.call0.v0 select,
    StableHlo.TRef.unary φ.call0.v0 φ.v5 (broadcastInDim S32x32x1 ![0, 1] bcast_S32x32_S32x32x1_0_1),
    StableHlo.TRef.nullary φ.c_1 (constantI S1 32 k),
    StableHlo.TRef.nullary φ.c_2 (constantI S_ 32 0#32),
    StableHlo.TRef.unary φ.c_2 φ.v6 (broadcastInDim S32x32x1 ![] bcast_S_S32x32x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S32x32x1 ![0, 1, 2] bcast_S1x1x1_S32x32x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S32x32x1_S32x32_d2 h_S_),
    StableHlo.TRef.binary table φ.v5 φ.v13 (fun x i => Host.gather g x i),
    StableHlo.TRef.unary φ.v12 φ.v14 (broadcastInDim S32x32x512 ![0, 1] bcast_S32x32_S32x32x512_0_1),
    StableHlo.TRef.nullary φ.cst (constant S_ .f32 0x7FC00000#32),
    StableHlo.TRef.unary φ.cst φ.v15 (broadcastInDim S32x32x512 ![] bcast_S_S32x32x512),
    StableHlo.TRef.ternary φ.v14 φ.v13 φ.v15 φ.v16 select ]
/-- The buffers of the second lookup. -/
abbrev bufs3 : fn_take.Bufs := ⟨main_call3.c, main_call3.v0, main_call3.v1, main_call3.c_0, main_call3.v2, main_call3.v3, ⟨main_call3.call0.v0⟩, main_call3.v5, main_call3.c_1, main_call3.c_2, main_call3.v6, main_call3.v7, main_call3.v8, main_call3.v9, main_call3.v10, main_call3.v11, main_call3.c_3, main_call3.v12, main_call3.v13, main_call3.v14, main_call3.cst, main_call3.v15, main_call3.v16⟩
/-- The buffers of the third lookup. -/
abbrev bufs4 : fn_take.Bufs := ⟨main_call4.c, main_call4.v0, main_call4.v1, main_call4.c_0, main_call4.v2, main_call4.v3, ⟨main_call4.call0.v0⟩, main_call4.v5, main_call4.c_1, main_call4.c_2, main_call4.v6, main_call4.v7, main_call4.v8, main_call4.v9, main_call4.v10, main_call4.v11, main_call4.c_3, main_call4.v12, main_call4.v13, main_call4.v14, main_call4.cst, main_call4.v15, main_call4.v16⟩
/-- The lookup of the bins. -/
abbrev ops5 : List (HloOp τ sig (Elt F)) :=
  takeOps 121#32 120#32 gather_S121x512_S32x32x1_S32x32x512_2_0_n_n_0_2_1512 (.of main_arg6) (.of main_v13) main_call2
/-- The lookup of the game ids. -/
abbrev ops7 : List (HloOp τ sig (Elt F)) :=
  takeOps 41#32 40#32 gather_S41x512_S32x32x1_S32x32x512_2_0_n_n_0_2_1512 (.of main_arg7) (.of main_v1) bufs3
/-- The lookup of the actions. -/
abbrev ops9 : List (HloOp τ sig (Elt F)) :=
  takeOps 18#32 17#32 gather_S18x512_S32x32x1_S32x32x512_2_0_n_n_0_2_1512 (.of main_arg8) (.of main_arg1) bufs4
/-- The bins as tokens. -/
abbrev ops6 : List (HloOp τ sig (Elt F)) :=
  [ StableHlo.unary main_v14 main_v15 (broadcastInDim S32x32x1x512 ![0, 1, 3] bcast_S32x32x512_S32x32x1x512_0_1_3 : (⟨S32x32x512, .f32⟩ : BufTy).Contents (Elt F) → (⟨S32x32x1x512, .f32⟩ : BufTy).Contents (Elt F)) ]
/-- The game ids as tokens. -/
abbrev ops8 : List (HloOp τ sig (Elt F)) :=
  [ StableHlo.unary main_v16 main_v17 (broadcastInDim S32x32x1x512 ![0, 1, 3] bcast_S32x32x512_S32x32x1x512_0_1_3 : (⟨S32x32x512, .f32⟩ : BufTy).Contents (Elt F) → (⟨S32x32x1x512, .f32⟩ : BufTy).Contents (Elt F)) ]
/-- The actions as tokens, and the tokens in order. -/
abbrev ops10 : List (HloOp τ sig (Elt F)) :=
  [ StableHlo.unary main_v18 main_v19 (broadcastInDim S32x32x1x512 ![0, 1, 3] bcast_S32x32x512_S32x32x1x512_0_1_3 : (⟨S32x32x512, .f32⟩ : BufTy).Contents (Elt F) → (⟨S32x32x1x512, .f32⟩ : BufTy).Contents (Elt F)),
    StableHlo.nary ![main_v15, main_v17, main_v8, main_v19] main_v20 (fun u => (concatenate S32x32x39x512 2 [⟨S32x32x1x512, (u 0 : (⟨S32x32x1x512, .f32⟩ : BufTy).Contents (Elt F))⟩, ⟨S32x32x1x512, (u 1 : (⟨S32x32x1x512, .f32⟩ : BufTy).Contents (Elt F))⟩, ⟨S32x32x36x512, (u 2 : (⟨S32x32x36x512, .f32⟩ : BufTy).Contents (Elt F))⟩, ⟨S32x32x1x512, (u 3 : (⟨S32x32x1x512, .f32⟩ : BufTy).Contents (Elt F))⟩] concatenates_S32x32x1x512_S32x32x1x512_S32x32x36x512_S32x32x1x512_S32x32x39x512_d2 : (⟨S32x32x39x512, .f32⟩ : BufTy).Contents (Elt F))),
    StableHlo.reshape main_v20 main_v21 (rfl : (.f32 : EltTy) = .f32) shapeCasts_S32x32x39x512_S32x1248x512 ]

/-- All the operations, in order. -/
abbrev opss : List (List (HloOp τ sig (Elt F))) := [ops0, ops1, ops2, ops3, ops4, ops5, ops6, ops7, ops8, ops9, ops10]

theorem main_chain (c : Dev nD) : main (F := F) c = Pipeline.chain
    [StableHlo.seq ops0, StableHlo.seq ops1, StableHlo.seq ops2, StableHlo.seq ops3, StableHlo.seq ops4, StableHlo.seq ops5,
      StableHlo.seq ops6, StableHlo.seq ops7, StableHlo.seq ops8, StableHlo.seq ops9, StableHlo.seq ops10] := by
  rewrite [StableHlo.chain_seq_cons, Pipeline.chain_cons, StableHlo.chain_seq_cons, Pipeline.chain_cons, StableHlo.chain_seq_cons, Pipeline.chain_cons,
    StableHlo.chain_seq_cons, Pipeline.chain_cons, StableHlo.chain_seq_cons, Pipeline.chain_cons, StableHlo.chain_seq_cons]
  chain_rfl

theorem main_seq (c : Dev nD) : main (F := F) c = StableHlo.seq (opss (F := F)).flatten :=
  (main_chain c).trans ((StableHlo.chain_map_seq_append opss []).trans (by rw [Pipeline.chain_nil]; exact bind_pure _))

/-- Every run of the reference ends with each buffer at what the operations, in order, leave in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after (opss (F := F)).flatten (StableHlo.launchContents m d) (Proc.devRef .tc b) :=
  StableHlo.run_seq (by decide) (by decide) _ _ (fun _ => (opss (F := F)).flatten) main_seq
    (fun _ => by simp [List.flatten_cons, List.forall_append]) m ρ (fun _ op h => by
      simp only [List.mem_flatten, List.mem_cons, List.not_mem_nil, or_false] at h
      obtain ⟨l, hl, h⟩ := h
      rcases hl with rfl | rfl | rfl | rfl | rfl | rfl | rfl | rfl | rfl | rfl | rfl <;>
        ((repeat (cases h with | head => rfl | tail _ h => ?_)); exact nomatch h))

/-- What the operations write, in order. -/
def written : List (Ref sig .tc) :=
  [main_v0, main_v1, main_v2, main_v3, main_v4, main_v5, main_v6, main_v7, main_v8, main_cst, main_cst_0, main_call0_v0, main_call0_v1, main_call0_v2, main_call0_v3, main_call0_v4, main_v9, main_cst_1, main_v10, main_v11, main_v12, main_v13, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v14, main_v15, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v16, main_v17, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v18, main_v19, main_v20, main_v21]

/-- A buffer no operation writes is left as it was found. -/
theorem kept (V : Valuation τ sig (Elt F)) {r : Ref sig .tc} (hr : r ∉ written) :
    StableHlo.after (opss (F := F)).flatten V (Proc.devRef .tc r) = V (Proc.devRef .tc r) :=
  StableHlo.after_unwritten written rfl hr V

/-- A lookup's value: the rows the ids name, a negative id counted from the end and an id outside the table answered by
    the quiet word. -/
def look {N : Nat} (n k : BitVec 32) (g : GatherDims ⟨2, ![N, 512]⟩ S32x32x1 S32x32x512) (T : FVec F ⟨2, ![N, 512]⟩ .f32) (x : IVec S32x32 32) :
    FVec F S32x32x512 .f32 :=
  let w : IVec S32x32x1 32 := broadcastInDim S32x32x1 ![0, 1] bcast_S32x32_S32x32x1_0_1
    (select (cmpi .slt x (broadcastInDim S32x32 ![] bcast_S_S32x32 (constantI S_ 32 0#32)))
      (addi x (broadcastInDim S32x32 ![] bcast_S_S32x32 (constantI S_ 32 n))) x)
  select
    (broadcastInDim S32x32x512 ![0, 1] bcast_S32x32_S32x32x512_0_1
      (Host.reduce IntOp.andi
        (andi (cmpi .sge w (broadcastInDim S32x32x1 ![] bcast_S_S32x32x1 (constantI S_ 32 0#32)))
          (cmpi .sle w (broadcastInDim S32x32x1 ![0, 1, 2] bcast_S1x1x1_S32x32x1_0_1_2
            (broadcastInDim S1x1x1 ![2] bcast_S1_S1x1x1_2 (constantI S1 32 k)))))
        (constantI S_ 1 1#1) reducesTo_S32x32x1_S32x32_d2 h_S_))
    (Host.gather g T w) (broadcastInDim S32x32x512 ![] bcast_S_S32x32x512 (constant S_ .f32 0x7FC00000#32))

/-- The bins of the returns. -/
def bins (x : FVec F S32x32 .f32) : IVec S32x32 32 :=
  fptosi 32 (Host.roundeven (subf
    (minimumf (broadcastInDim S32x32 ![] bcast_S_S32x32 (constant S_ .f32 0x42C80000#32))
      (maximumf (broadcastInDim S32x32 ![] bcast_S_S32x32 (constant S_ .f32 0xC1A00000#32)) x))
    (broadcastInDim S32x32 ![] bcast_S_S32x32 (constant S_ .f32 0xC1A00000#32))))

/-- The game ids, each over its whole row. -/
def games (x : IVec S32 32) : IVec S32x32 32 :=
  broadcastInDim S32x32 ![0, 1] bcast_S32x1_S32x32_0_1 (broadcastInDim S32x1 ![0] bcast_S32_S32x1_0 x)

/-- The patch tokens: each frame cut into patches, each patch's numbers in a line, times the weights, plus the bias. -/
def patches (x : FVec F S32x32x4x84x84 .f32) (W : FVec F S784x512 .f32) (b : FVec F S512 .f32) : FVec F S32x32x36x512 .f32 :=
  addf (Host.dotGeneral dot_S32x32x36x784_S784x512_S32x32x36x512_3_0_012_1_n_n none
      (shapeCast S32x32x36x784 (transpose S32x32x6x6x4x14x14 [0, 1, 3, 5, 2, 4, 6]
        (shapeCast S32x32x4x6x14x6x14 x shapeCasts_S32x32x4x84x84_S32x32x4x6x14x6x14)
        transposes_S32x32x4x6x14x6x14_S32x32x6x6x4x14x14_0_1_3_5_2_4_6) shapeCasts_S32x32x6x6x4x14x14_S32x32x36x784) W)
    (broadcastInDim S32x32x36x512 ![0, 1, 2, 3] bcast_S1x1x1x512_S32x32x36x512_0_1_2_3 (broadcastInDim S1x1x1x512 ![3] bcast_S512_S1x1x1x512_3 b))

/-- A lookup's rows as one token a frame. -/
def one (x : FVec F S32x32x512 .f32) : FVec F S32x32x1x512 .f32 := broadcastInDim S32x32x1x512 ![0, 1, 3] bcast_S32x32x512_S32x32x1x512_0_1_3 x

/-- The tokens of every frame in order: return, game, patches, action. -/
def toks (a : FVec F S32x32x1x512 .f32) (b : FVec F S32x32x1x512 .f32) (p : FVec F S32x32x36x512 .f32) (d : FVec F S32x32x1x512 .f32) :
    FVec F S32x1248x512 .f32 :=
  shapeCast S32x1248x512 (concatenate S32x32x39x512 2 [⟨S32x32x1x512, a⟩, ⟨S32x32x1x512, b⟩, ⟨S32x32x36x512, p⟩, ⟨S32x32x1x512, d⟩]
    concatenates_S32x32x1x512_S32x32x1x512_S32x32x36x512_S32x32x1x512_S32x32x39x512_d2) shapeCasts_S32x32x39x512_S32x1248x512

variable (V : Valuation τ sig (Elt F))

theorem read_v1 : StableHlo.after (opss (F := F)).flatten V (Proc.devRef .tc main_v1) = games (V (Proc.devRef .tc main_arg3)) := by
  unfold games
  simp only [List.flatten_cons, List.flatten_nil, List.append_nil, List.cons_append, List.nil_append]
  after_reads_simp <;> rfl

theorem read_v13 : StableHlo.after (opss (F := F)).flatten V (Proc.devRef .tc main_v13) = bins (V (Proc.devRef .tc main_arg2)) := by
  unfold bins
  simp only [List.flatten_cons, List.flatten_nil, List.append_nil, List.cons_append, List.nil_append]
  after_reads_simp <;> rfl

end Cert.ReferenceIdeal.Tok

end
-- ==== Proof.Frames.lean ====
module

public import proofs.«01_k».proof.Defs
public import proofs.«01_k».proof.Proof.Same
public import proofs.«01_k».proof.Proof.Bounds
public import proofs.«01_k».proof.Proof.RefRun
public import Idealize.ShloMosaic.Lib.Claim
public import Idealize.ShloMosaic.Lib.Quiescent

@[expose] public section

set_option maxRecDepth 65536

noncomputable section

namespace Cert.Frames

open Idealize.ShloMosaic Idealize.ShloMosaic.TcCoe Idealize.SL.Sem Cert.Bounds

/-- The kernel over the extended reals, given ids in their tables: the bins are in theirs whatever the returns are. -/
theorem ids_ideal {m : (ℓ : Loc Cert.KernelIdeal.nD Cert.KernelIdeal.τ Cert.KernelIdeal.sig) → Buf (Elt Ideal) ℓ}
    (h : Cert.Pre_KernelIdeal (hPre_ids_in_tables := Cert.Pre_ids_in_tables.Gen.facts) m) : Cert.KernelIdeal.Tok.Ids m :=
  Cert.KernelIdeal.Tok.ids_of m (fun c y => bins_lt _ y) (fun c => (ids _ _ _ _ _ _ _ _ _ (h c)).1) (fun c => (ids _ _ _ _ _ _ _ _ _ (h c)).2)

theorem frame_KernelIdeal : Cert.quiescent_KernelIdeal (hKernelIdeal := Cert.KernelIdeal.Gen.facts) (hPre_ids_in_tables := Cert.Pre_ids_in_tables.Gen.facts) :=
  fun m g h => Cert.KernelIdeal.Tok.frame m g (ids_ideal h)

theorem frame_KernelIdeal_bins : Cert.quiescent_KernelIdeal_pre_ids_and_bins_in_tables (hKernelIdeal := Cert.KernelIdeal.Gen.facts)
    (hPre_ids_and_bins_in_tables := Cert.Pre_ids_and_bins_in_tables.Gen.facts) := fun m g h =>
  Cert.KernelIdeal.Tok.frame m g (Cert.KernelIdeal.Tok.ids_of m (fun c => (ids_bins _ _ _ _ _ _ _ _ _ (h c)).1)
    (fun c => (ids_bins _ _ _ _ _ _ _ _ _ (h c)).2.1) (fun c => (ids_bins _ _ _ _ _ _ _ _ _ (h c)).2.2))

/-- The exact kernel is the same program, so it has the same frame. -/
theorem frame_Kernel : Cert.quiescent_Kernel (hKernel := Cert.Kernel.Gen.facts) (hPre_ids_and_bins_in_tables := Cert.Pre_ids_and_bins_in_tables.Gen.facts) := by
  intro m g h
  rw [Cert.Same.defs_same, Cert.Same.main_same]
  exact Cert.KernelIdeal.Tok.frame (F := Bits) m g (Cert.KernelIdeal.Tok.ids_of (F := Bits) m (fun c => (ids_bins _ _ _ _ _ _ _ _ _ (h c)).1)
    (fun c => (ids_bins _ _ _ _ _ _ _ _ _ (h c)).2.1) (fun c => (ids_bins _ _ _ _ _ _ _ _ _ (h c)).2.2))

/-- The reference's run leaves its arguments alone, and it has no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ (c : Dev Cert.ReferenceIdeal.nD) (b : Ref Cert.ReferenceIdeal.sig .tc), b ∉ Cert.ReferenceIdeal.Tok.written →
        r.2.mem ((c : Thread Cert.ReferenceIdeal.nD Cert.ReferenceIdeal.τ).loc b) = m ((c : Thread Cert.ReferenceIdeal.nD Cert.ReferenceIdeal.τ).loc b)) ∧ r.2.sem = fun _ => 0) :=
  θ_run_mono (Cert.ReferenceIdeal.Tok.run m g) fun r h =>
    ⟨fun c b hb => (h c b).trans (Cert.ReferenceIdeal.Tok.kept _ hb), sem_eq_zero_of_no_sems rfl _⟩

theorem frame_ReferenceIdeal : Cert.quiescent_ReferenceIdeal (hReferenceIdeal := Cert.ReferenceIdeal.Gen.facts) := fun m g _ =>
  θ_run_mono (ref_frame m g) fun r h => ⟨fun c => by
    refine ⟨?_, ?_, ?_, ?_, ?_, ?_, ?_, ?_, ?_⟩ <;> exact h.1 c _ (by decide), h.2⟩

theorem frame_ReferenceIdeal_ids : Cert.quiescent_ReferenceIdeal_pre_ids_in_tables (hReferenceIdeal := Cert.ReferenceIdeal.Gen.facts)
    (hPre_ids_in_tables := Cert.Pre_ids_in_tables.Gen.facts) := fun m g _ => frame_ReferenceIdeal m g trivial

end Cert.Frames

end
-- ==== Proof.Patch.lean ====
module

public import proofs.«01_k».proof.Proof.TokRun
public import Idealize.ShloMosaic.Lib.Pipeline.ValueKit

@[expose] public section

set_option maxRecDepth 16384

noncomputable section

/-! One patch of the kernel at an index. -/

namespace Cert.KernelIdeal.Tok

open Cert.KernelIdeal Cert.KernelIdeal.Gen
open Idealize.ShloMosaic

/-- A patch the body projects, at an index: the sum over the patch's pixels, plus the bias. -/
theorem patchOut_apply (o : ℕ) (ho : o + 14 ≤ 84) (hs : S8x4x6x14x84.Slices ![0, 0, 0, 0, o] S8x4x6x14x14)
    (x : Vec Ideal S8x4x84x84 .f32) (W : Vec Ideal S784x512 .f32) (b : Vec Ideal S1x512 .f32)
    (j : Fin 8) (h : Fin 6) (d : Fin 512) :
    patchOut o hs (k0_pay4 x) W (k0_pay5 b) (ix3 j h d)
      = ((∑ k : Fin 784, (x (ix4 j ⟨k.val / 196, by omega⟩ ⟨h.val * 14 + k.val / 14 % 14, by omega⟩
          ⟨o + k.val % 14, by omega⟩) : EReal) * W (ix2 k d)) + b (ix2 0 d) : EReal) := by
  pointwise [patchOut, k0_pay4, k0_pay5]

end Cert.KernelIdeal.Tok

end
-- ==== Proof.Value.lean ====
module

public import proofs.«01_k».proof.Proof.Run
public import proofs.«01_k».proof.Proof.Patch

@[expose] public section

set_option maxRecDepth 16384

noncomputable section

/-! What the kernel's token array ends holding. -/

namespace Cert.KernelIdeal.Tok

open Cert.KernelIdeal Cert.KernelIdeal.Gen
open Idealize.ShloMosaic Idealize.ShloMosaic.TcCoe Idealize.SL.Sem

variable (m : (ℓ : Loc nD τ sig) → Buf (Elt Ideal) ℓ)

/-- The token at place `q` of frame `f`, from the arrays the kernel is launched on. -/
def allAt (X : FVec Ideal S1024x4x84x84 .f32) (r a g : IVec S1x1024 32) (W : FVec Ideal S784x512 .f32) (b : FVec Ideal S1x512 .f32)
    (R : FVec Ideal S121x512 .f32) (G : FVec Ideal S41x512 .f32) (A : FVec Ideal S18x512 .f32) (f : Fin 1024) (q : Fin 39) (d : Fin 512) : EReal :=
  if q.val = 0 then rowOf (F := Ideal) R (r (ix2 0 f)) d
  else if q.val = 1 then rowOf (F := Ideal) G (g (ix2 0 f)) d
  else if h : q.val < 38 then
    (∑ k : Fin 784, (X (ix4 f ⟨k.val / 196, by omega⟩ ⟨(q.val - 2) / 6 * 14 + k.val / 14 % 14, by omega⟩
      ⟨(q.val - 2) % 6 * 14 + k.val % 14, by omega⟩) : EReal) * W (ix2 k d)) + b (ix2 0 d)
  else rowOf (F := Ideal) A (a (ix2 0 f)) d

/-- The tokens of all the frames. -/
def all (X : FVec Ideal S1024x4x84x84 .f32) (r a g : IVec S1x1024 32) (W : FVec Ideal S784x512 .f32) (b : FVec Ideal S1x512 .f32)
    (R : FVec Ideal S121x512 .f32) (G : FVec Ideal S41x512 .f32) (A : FVec Ideal S18x512 .f32) : FVec Ideal S1024x39x512 .f32 :=
  fun y => allAt X r a g W b R G A (y 0) (y 1) (y 2)

theorem idx (t : Fin cfg0.N) : win0_3.index t = ![(grid0.coords t 0).val, 0, 0, 0] ∧ win0_9.index t = ![(grid0.coords t 0).val, 0, 0] := by
  revert t; decide +kernel

theorem idx0 (t : Fin cfg0.N) : win0_0.index t = ![0, 0] ∧ win0_1.index t = ![0, 0] ∧ win0_2.index t = ![0, 0] ∧ win0_4.index t = ![0, 0]
    ∧ win0_5.index t = ![0, 0] ∧ win0_6.index t = ![0, 0] ∧ win0_7.index t = ![0, 0] ∧ win0_8.index t = ![0, 0] := by
  revert t; decide +kernel

variable (c : Dev nD) (t : Fin cfg0.N)

theorem blk0 : iblk m c 0 t = V m c main_v8 := by funext j; obtain ⟨e, _⟩ := idx0 t; blk_ext [iblk, e]
theorem blk1 : iblk m c 1 t = V m c main_v9 := by funext j; obtain ⟨_, e, _⟩ := idx0 t; blk_ext [iblk, e]
theorem blk2 : iblk m c 2 t = V m c main_v10 := by funext j; obtain ⟨_, _, e, _⟩ := idx0 t; blk_ext [iblk, e]
theorem blk4 : iblk m c 4 t = V m c main_arg4 := by funext j; obtain ⟨_, _, _, e, _⟩ := idx0 t; blk_ext [iblk, e]
theorem blk5 : iblk m c 5 t = V m c main_v11 := by funext j; obtain ⟨_, _, _, _, e, _⟩ := idx0 t; blk_ext [iblk, e]
theorem blk6 : iblk m c 6 t = V m c main_arg6 := by funext j; obtain ⟨_, _, _, _, _, e, _⟩ := idx0 t; blk_ext [iblk, e]
theorem blk7 : iblk m c 7 t = V m c main_arg7 := by funext j; obtain ⟨_, _, _, _, _, _, e, _⟩ := idx0 t; blk_ext [iblk, e]
theorem blk8 : iblk m c 8 t = V m c main_arg8 := by funext j; obtain ⟨_, _, _, _, _, _, _, e⟩ := idx0 t; blk_ext [iblk, e]

/-- The frame at place `j` of grid point `t`. -/
def frameOf (j : Fin 8) : Fin 1024 :=
  ⟨8 * (grid0.coords t 0).val + j.val, by have h : (grid0.coords t 0).val < 128 := (grid0.coords t 0).isLt; have := j.isLt; omega⟩

theorem blk3 (j : Fin 8) (k : Fin 4) (h w : Fin 84) : iblk m c 3 t (ix4 j k h w) = V m c main_v0 (ix4 (frameOf t j) k h w) := by
  obtain ⟨e, _⟩ := idx t; unfold frameOf; blk_ext [iblk, e]

theorem blk9 (y : S8x39x512.Idx) : (win0_9.blk t).view.emb y = (ix3 (frameOf t (y 0)) (y 1) (y 2) : S1024x39x512.Idx) := by
  obtain ⟨_, e⟩ := idx t; unfold frameOf; blk_ext [e]

/-- A grid point's tokens are those of its frames. -/
theorem tokAt_apply (j : Fin 8) (q : Fin 39) (d : Fin 512) : tokAt m c t (ix3 j q d)
    = allAt (V m c main_v0) (V m c main_v8) (V m c main_v9) (V m c main_v10) (V m c main_arg4) (V m c main_v11) (V m c main_arg6)
        (V m c main_arg7) (V m c main_arg8) (frameOf t j) q d := by
  unfold tokAt
  rw [blk0, blk1, blk2, blk4, blk5, blk6, blk7, blk8]
  unfold allAt
  by_cases h0 : q.val = 0
  · rw [tok_rtg _ _ _ _ _ _ _ _ _ _ _ h0, if_pos h0]; rfl
  by_cases h1 : q.val = 1
  · rw [tok_game _ _ _ _ _ _ _ _ _ _ _ h1, if_neg h0, if_pos h1]; rfl
  by_cases h2 : q.val < 38
  · have hc : (q.val - 2) % 6 < 6 := Nat.mod_lt _ (by decide)
    have hr : (q.val - 2) / 6 < 6 := by omega
    have e : (Fin.ofNat 6 ((q.val - 2) / 6)).val = (q.val - 2) / 6 := Nat.mod_eq_of_lt hr
    rw [tok_patch _ _ _ _ _ _ _ _ _ _ _ (by show 2 ≤ q.val; omega) h2, if_neg h0, if_neg h1, dif_pos h2]
    have hp := patchOut_apply (14 * ((q.val - 2) % 6)) (by omega) (slices_col _) (iblk m c 3 t) (V m c main_arg4) (V m c main_v11) j
      (Fin.ofNat 6 ((q.val - 2) / 6)) d
    refine Eq.trans hp ?_
    refine congrArg (fun s : EReal => s + _) (Finset.sum_congr rfl fun k _ => congrArg (fun s : EReal => s * _) ?_)
    rw [blk3]
    refine congrArg _ (congrArg₂ (ix4 _ _) (Fin.ext ?_) (Fin.ext ?_))
    · simp only [e]
    · simp only [Nat.mul_comm]
  · rw [tok_act _ _ _ _ _ _ _ _ _ _ _ (show q.val = 38 by omega), if_neg h0, if_neg h1, dif_neg h2]; rfl

/-- The token array after the run. -/
theorem out_all : (dats m 0 c).arrAt 9 (cfgs 0).N
    = all (V m c main_v0) (V m c main_v8) (V m c main_v9) (V m c main_v10) (V m c main_arg4) (V m c main_v11) (V m c main_arg6)
        (V m c main_arg7) (V m c main_arg8) := by
  refine (dats m 0 c).arrAt_eq_of_covers 9 _ (by decide +kernel) fun t hf y => ?_
  blk_simp
  rw [after0_9]
  refine Eq.trans ?_ (congrArg _ (blk9 t y).symm)
  rw [← ix3_eta y]
  exact tokAt_apply m c t _ _ _

end Cert.KernelIdeal.Tok

end
-- ==== Proof.KernelRun.lean ====
module

public import proofs.«01_k».proof.Proof.Value
public import proofs.«01_k».proof.Proof.Entry
public import Idealize.ShloMosaic.Lib.Claim

@[expose] public section

set_option maxRecDepth 16384

noncomputable section

/-! The kernel's run, with what its results end holding. -/

namespace Cert.KernelIdeal.Tok

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What a buffer holds after the region and the reshape that follows it, when neither writes it. -/
theorem tail_kept (c : Dev nD) (b : Ref sig .tc) (hb : b ≠ main_v13) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)), Pipeline.withArrays_of_ne _ c (V0 m c) _ b hw]

/-- The tokens returned are the token array's, in the result's shape. -/
theorem tail_v13 (c : Dev nD) : Pipeline.afterTail₀ cfgs (dats m) 0 (V0 m) [hostOps1] c main_v13
    = shapeCast S32x1248x512 ((dats m 0 c).arrAt 9 (cfgs 0).N) shapeCasts_S1024x39x512_S32x1248x512 := by
  have e := Pipeline.withArrays_arr spec0 launch0.win.arr_inj c (V0 m c) (fun w => (dats m 0 c).arrAt w (cfgs 0).N) 9
  unfold Pipeline.afterTail₀
  simp only [hostOps1, List.flatten_cons, List.flatten_nil, List.append_nil]
  after_results
  exact congrArg (fun x => shapeCast S32x1248x512 x shapeCasts_S1024x39x512_S32x1248x512) e

/-- The tokens the kernel returns, over its arguments. -/
def result (c : Dev nD) : FVec Ideal S32x1248x512 .f32 :=
  shapeCast S32x1248x512
    (all (shapeCast S1024x4x84x84 (m ((c.tc : Thread nD τ).loc main_arg0)) shapeCasts_S32x32x4x84x84_S1024x4x84x84)
      (shapeCast S1x1024 (bins (F := Ideal) (m ((c.tc : Thread nD τ).loc main_arg2))) shapeCasts_S32x32_S1x1024)
      (shapeCast S1x1024 (m ((c.tc : Thread nD τ).loc main_arg1)) shapeCasts_S32x32_S1x1024)
      (shapeCast S1x1024 (games (m ((c.tc : Thread nD τ).loc main_arg3))) shapeCasts_S32x32_S1x1024) (m ((c.tc : Thread nD τ).loc main_arg4))
      (shapeCast S1x512 (m ((c.tc : Thread nD τ).loc main_arg5)) shapeCasts_S512_S1x512) (m ((c.tc : Thread nD τ).loc main_arg6))
      (m ((c.tc : Thread nD τ).loc main_arg7)) (m ((c.tc : Thread nD τ).loc main_arg8))) shapeCasts_S1024x39x512_S32x1248x512

/-- The kernel's run: its tokens, its bins and its game ids, over its arguments. -/
theorem run_val (hid : Ids m) : θ_run defs (onTc (τ := τ) (main (F := Ideal))) ⟨m, fun _ => 0, ρ⟩ (fun r => ∀ c : Dev nD,
    r.2.mem ((c.tc : Thread nD τ).loc main_v13) = result m c
    ∧ r.2.mem ((c.tc : Thread nD τ).loc main_v5) = bins (F := Ideal) (m ((c.tc : Thread nD τ).loc main_arg2))
    ∧ r.2.mem ((c.tc : Thread nD τ).loc main_v7) = games (m ((c.tc : Thread nD τ).loc main_arg3))) :=
  θ_run_mono (run_main m ρ hid) fun r h c => by
    have k (b : Ref sig .tc) := (h.1 c).2 b
    refine ⟨?_, ?_, ?_⟩
    · rw [k main_v13 (Pipeline.mem_restRefs_of main_v13 (by decide) (by decide)), tail_v13, out_all, V_v0, V_v8, V_v9, V_v10, V_v11, V_main_arg4, V_main_arg6,
        V_main_arg7, V_main_arg8]; rfl
    · rw [k main_v5 (Pipeline.mem_restRefs_of main_v5 (by decide) (by decide)), tail_kept m c main_v5 (by decide) (by decide), V_v5]
    · rw [k main_v7 (Pipeline.mem_restRefs_of main_v7 (by decide) (by decide)), tail_kept m c main_v7 (by decide) (by decide), V_v7]

end Cert.KernelIdeal.Tok

end
-- ==== Proof.RefPoint.lean ====
module

public import proofs.«01_k».proof.Proof.RefRun
public import Idealize.ShloMosaic.Lib.Pipeline.ValueKit
public import Idealize.ShloMosaic.Lib.ReduceAll

@[expose] public section

set_option maxRecDepth 16384

noncomputable section

/-! The reference's pieces at an index. -/

namespace Cert.ReferenceIdeal.Tok

open Cert.ReferenceIdeal Cert.ReferenceIdeal.Gen
open Idealize.ShloMosaic

/-- A patch the reference projects, at an index: the sum over the patch's pixels, plus the bias. -/
theorem patches_apply (x : FVec Ideal S32x32x4x84x84 .f32) (W : FVec Ideal S784x512 .f32) (b : FVec Ideal S512 .f32)
    (n t : Fin 32) (p : Fin 36) (d : Fin 512) :
    patches x W b (ix4 n t p d)
      = ((∑ k : Fin 784, (x (ix5 n t ⟨k.val / 196, by omega⟩ ⟨p.val / 6 * 14 + k.val / 14 % 14, by omega⟩
          ⟨p.val % 6 * 14 + k.val % 14, by omega⟩) : EReal) * W (ix2 k d)) + b (ix1 d) : EReal) := by
  pointwise [patches]

/-- How a lookup of rows reads its table: one id a frame, one row an id. -/
abbrev rowDims (N : ℕ) (wf : GatherDims.WF (⟨2, ![N, 512]⟩ : Shape) S32x32x1 S32x32x512 [2] [0] [] [0] [] 2 ![1, 512]) :
    GatherDims ⟨2, ![N, 512]⟩ S32x32x1 S32x32x512 := ⟨[2], [0], [], [], [0], 2, ![1, 512], wf⟩

/-- Such a lookup at an index. -/
theorem gather_row {N : ℕ} (wf : GatherDims.WF (⟨2, ![N, 512]⟩ : Shape) S32x32x1 S32x32x512 [2] [0] [] [0] [] 2 ![1, 512])
    (T : FVec Ideal ⟨2, ![N, 512]⟩ .f32) (w : IVec S32x32x1 32) (b t : Fin 32) (d : Fin 512) (h : (w (ix3 b t 0)).toNat < N) (hN : N < 2 ^ 31) :
    Host.gather (rowDims N wf) T w (ix3 b t d) = T (ix2 ⟨(w (ix3 b t 0)).toNat, h⟩ d) := by
  unfold Host.gather
  refine congrArg T (funext fun a => Fin.ext ?_)
  show (rowDims N wf).start (ix3 b t d) w a + (rowDims N wf).batchCoord (ix3 b t d) a + (rowDims N wf).offCoord (ix3 b t d) a = _
  rw [GatherDims.batchCoord_eq_zero _ _ _ List.not_mem_nil, Nat.add_zero]
  match a with
  | ⟨0, _⟩ =>
    have e : (rowDims N wf).siIdx (ix3 b t d) ⟨List.idxOf (0 : Fin 2) (rowDims N wf).startIndexMap,
        List.idxOf_lt_length_iff.2 (List.mem_singleton.mpr rfl)⟩ = ix3 b t 0 := by
      funext k; refine Fin.ext ?_
      match k with
      | ⟨0, _⟩ => rfl
      | ⟨1, _⟩ => rfl
      | ⟨2, _⟩ => rfl
    show (rowDims N wf).start (ix3 b t d) w 0 + (rowDims N wf).offCoord (ix3 b t d) 0 = (w (ix3 b t 0)).toNat
    rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N wf).startIndexMap from List.mem_singleton.mpr rfl), e]
    show min (w (ix3 b t 0)).toInt.toNat (N - 1) = _
    rw [BitVec.toInt_eq_toNat_of_lt (by omega), Int.toNat_natCast]
    omega
  | ⟨1, _⟩ =>
    show (rowDims N wf).start (ix3 b t d) w 1 + (rowDims N wf).offCoord (ix3 b t d) 1 = d.val
    unfold GatherDims.start
    rw [dif_neg (show (1 : Fin 2) ∉ (rowDims N wf).startIndexMap from by simp [rowDims]), Nat.zero_add]
    rfl

/-- A lookup of ids that all name rows is, at an index, the named row. -/
theorem look_apply {N : ℕ} (hN : N < 2 ^ 31) (n k : BitVec 32) (hk : k.toNat + 1 = N)
    (wf : GatherDims.WF (⟨2, ![N, 512]⟩ : Shape) S32x32x1 S32x32x512 [2] [0] [] [0] [] 2 ![1, 512])
    (T : FVec Ideal ⟨2, ![N, 512]⟩ .f32) (x : IVec S32x32 32) (h : ∀ y, (x y).toNat < N) (b t : Fin 32) (d : Fin 512) :
    look n k (rowDims N wf) T x (ix3 b t d) = T (ix2 ⟨(x (ix2 b t)).toNat, h _⟩ d) := by
  have ix (y : S32x32.Idx) : (x y).toInt = (x y).toNat := BitVec.toInt_eq_toNat_of_lt (by have := h y; omega)
  have hlt (y : S32x32.Idx) : IntOp.cmpi .slt (x y) 0#32 = 0#1 := by
    have : BitVec.slt (x y) 0#32 = false := by rw [BitVec.slt_eq_decide, ix]; simp
    show BitVec.ofBool _ = _
    rw [this]; rfl
  have hge (y : S32x32.Idx) : IntOp.cmpi .sge (x y) 0#32 = 1#1 := by
    have : BitVec.sle 0#32 (x y) = true := by rw [BitVec.sle_eq_decide, ix]; simp
    show BitVec.ofBool _ = _
    rw [this]; rfl
  have hle (y : S32x32.Idx) : IntOp.cmpi .sle (x y) k = 1#1 := by
    have : BitVec.sle (x y) k = true := by
      have := h y
      rw [BitVec.sle_eq_decide, ix, BitVec.toInt_eq_toNat_of_lt (by omega), decide_eq_true_iff]; omega
    show BitVec.ofBool _ = _
    rw [this]; rfl
  have e : broadcastInDim S32x32x1 ![0, 1] bcast_S32x32_S32x32x1_0_1
      (select (cmpi .slt x (broadcastInDim S32x32 ![] bcast_S_S32x32 (constantI S_ 32 0#32)))
        (addi x (broadcastInDim S32x32 ![] bcast_S_S32x32 (constantI S_ 32 n))) x) = fun z => x (ix2 (z 0) (z 1)) := by
    funext z
    idx_vars z
    pointwise
    rw [hlt]; rfl
  unfold look
  dsimp only
  rw [e]
  show Scalar.select (Host.reduce _ _ _ _ _ _) _ _ = _
  rw [Host.reduce_andi_one _ _ _ _ _ rfl fun z => ?_]
  · exact gather_row wf T _ b t d (h _) hN
  · show IntOp.andi (IntOp.cmpi .sge (x _) 0#32) (IntOp.cmpi .sle (x _) k) = 1#1
    rw [hge, hle]; rfl

/-- The tokens at an index, by the place in the frame. -/
theorem toks_apply (a b : FVec Ideal S32x32x1x512 .f32) (p : FVec Ideal S32x32x36x512 .f32) (c : FVec Ideal S32x32x1x512 .f32)
    (n : Fin 32) (q : Fin 1248) (d : Fin 512) :
    toks a b p c (ix3 n q d)
      = if q.val % 39 = 0 then a (ix4 n ⟨q.val / 39, by omega⟩ 0 d)
        else if q.val % 39 = 1 then b (ix4 n ⟨q.val / 39, by omega⟩ 0 d)
        else if h : q.val % 39 < 38 then p (ix4 n ⟨q.val / 39, by omega⟩ ⟨q.val % 39 - 2, by omega⟩ d)
        else c (ix4 n ⟨q.val / 39, by omega⟩ 0 d) := by
  pointwise [toks]
  by_cases h0 : q.val % 39 = 0
  · rw [dif_pos (by omega), if_pos h0]
    exact congrArg a (congrArg (ix4 n _ · d) (Fin.ext h0))
  by_cases h1 : q.val % 39 = 1
  · rw [dif_neg (by omega), dif_pos (by omega), if_neg h0, if_pos h1]
    exact congrArg b (congrArg (ix4 n _ · d) (Fin.ext (by show q.val % 39 - 1 = 0; omega)))
  by_cases h2 : q.val % 39 < 38
  · rw [dif_neg (by omega), dif_neg (by omega), dif_pos (by omega), if_neg h0, if_neg h1, dif_pos h2]
    exact congrArg p (congrArg (ix4 n _ · d) (Fin.ext (by show q.val % 39 - 1 - 1 = q.val % 39 - 2; omega)))
  · rw [dif_neg (by omega), dif_neg (by omega), dif_neg (by omega), if_neg h0, if_neg h1, dif_neg h2]
    exact congrArg c (congrArg (ix4 n _ · d) (Fin.ext (by show q.val % 39 - 1 - 1 - 36 = 0; omega)))

/-- A lookup's row as the one token of its frame. -/
theorem one_apply (x : FVec Ideal S32x32x512 .f32) (n t : Fin 32) (d : Fin 512) : one x (ix4 n t 0 d) = x (ix3 n t d) := by
  pointwise [one]

end Cert.ReferenceIdeal.Tok

end
-- ==== Proof.Tie.lean ====
module

public import proofs.«01_k».proof.Proof.RefPoint
public import proofs.«01_k».proof.Proof.Value
public import proofs.«01_k».proof.Proof.Entry
public import Idealize.ShloMosaic.Lib.Pipeline.ValueKit

@[expose] public section

set_option maxRecDepth 16384

noncomputable section

/-! The kernel's tokens are the reference's. -/

namespace Cert.Tie

open Idealize.ShloMosaic
open Cert.KernelIdeal.Gen

/-- The frame at step `t` of row `n`. -/
def fr (n t : Fin 32) : Fin 1024 := ⟨n.val * 32 + t.val, by omega⟩

theorem words_apply (x : IVec Cert.KernelIdeal.S32x32 32) (n t : Fin 32) :
    shapeCast Cert.KernelIdeal.S1x1024 x shapeCasts_S32x32_S1x1024 (ix2 0 (fr n t)) = x (ix2 n t) := by
  unfold fr
  pointwise

theorem frames_apply (x : FVec Ideal Cert.KernelIdeal.S32x32x4x84x84 .f32) (n t : Fin 32) (k : Fin 4) (h w : Fin 84) :
    shapeCast Cert.KernelIdeal.S1024x4x84x84 x shapeCasts_S32x32x4x84x84_S1024x4x84x84 (ix4 (fr n t) k h w) = x (ix5 n t k h w) := by
  unfold fr
  pointwise

theorem bias_apply (x : FVec Ideal Cert.KernelIdeal.S512 .f32) (d : Fin 512) :
    shapeCast Cert.KernelIdeal.S1x512 x shapeCasts_S512_S1x512 (ix2 0 d) = x (ix1 d) := by
  pointwise

theorem tokens_apply (x : FVec Ideal Cert.KernelIdeal.S1024x39x512 .f32) (n : Fin 32) (q : Fin 1248) (d : Fin 512) :
    shapeCast Cert.KernelIdeal.S32x1248x512 x shapeCasts_S1024x39x512_S32x1248x512 (ix3 n q d)
      = x (ix3 (fr n ⟨q.val / 39, by omega⟩) ⟨q.val % 39, by omega⟩ d) := by
  unfold fr
  pointwise

/-- The row a word names, when it names one. -/
theorem row_eq {N : ℕ} [NeZero N] (T : Vec Ideal (⟨2, ![N, 512]⟩ : Shape) .f32) {w : BitVec 32} (h : w.toNat < N) (d : Fin 512) :
    Cert.KernelIdeal.Tok.rowOf (F := Ideal) T w d = T (ix2 ⟨w.toNat, h⟩ d) :=
  congrArg (fun r => T (ix2 r d)) (Fin.ext (Nat.mod_eq_of_lt h))

/-- Both programs' tokens, from the same arguments. -/
theorem tokens_eq (X : FVec Ideal Cert.KernelIdeal.S32x32x4x84x84 .f32) (a : IVec Cert.KernelIdeal.S32x32 32) (r : FVec Ideal Cert.KernelIdeal.S32x32 .f32)
    (g : IVec Cert.KernelIdeal.S32 32) (W : FVec Ideal Cert.KernelIdeal.S784x512 .f32) (b : FVec Ideal Cert.KernelIdeal.S512 .f32)
    (R : FVec Ideal Cert.KernelIdeal.S121x512 .f32) (G : FVec Ideal Cert.KernelIdeal.S41x512 .f32) (A : FVec Ideal Cert.KernelIdeal.S18x512 .f32)
    (hr : ∀ y, (Cert.KernelIdeal.Tok.bins r y).toNat < 121) (ha : ∀ y, (a y).toNat < 18) (hg : ∀ y, (Cert.KernelIdeal.Tok.games g y).toNat < 41) :
    shapeCast Cert.KernelIdeal.S32x1248x512
        (Cert.KernelIdeal.Tok.all (shapeCast Cert.KernelIdeal.S1024x4x84x84 X shapeCasts_S32x32x4x84x84_S1024x4x84x84)
          (shapeCast Cert.KernelIdeal.S1x1024 (Cert.KernelIdeal.Tok.bins r) shapeCasts_S32x32_S1x1024)
          (shapeCast Cert.KernelIdeal.S1x1024 a shapeCasts_S32x32_S1x1024)
          (shapeCast Cert.KernelIdeal.S1x1024 (Cert.KernelIdeal.Tok.games g) shapeCasts_S32x32_S1x1024) W
          (shapeCast Cert.KernelIdeal.S1x512 b shapeCasts_S512_S1x512) R G A) shapeCasts_S1024x39x512_S32x1248x512
      = Cert.ReferenceIdeal.Tok.toks
          (Cert.ReferenceIdeal.Tok.one (Cert.ReferenceIdeal.Tok.look 121#32 120#32 Cert.ReferenceIdeal.gather_S121x512_S32x32x1_S32x32x512_2_0_n_n_0_2_1512 R (Cert.KernelIdeal.Tok.bins r)))
          (Cert.ReferenceIdeal.Tok.one (Cert.ReferenceIdeal.Tok.look 41#32 40#32 Cert.ReferenceIdeal.gather_S41x512_S32x32x1_S32x32x512_2_0_n_n_0_2_1512 G (Cert.KernelIdeal.Tok.games g)))
          (Cert.ReferenceIdeal.Tok.patches X W b)
          (Cert.ReferenceIdeal.Tok.one (Cert.ReferenceIdeal.Tok.look 18#32 17#32 Cert.ReferenceIdeal.gather_S18x512_S32x32x1_S32x32x512_2_0_n_n_0_2_1512 A a)) := by
  have eR (n t : Fin 32) (d : Fin 512) := Cert.ReferenceIdeal.Tok.look_apply (N := 121) (by decide) 121#32 120#32 (by decide)
    Cert.ReferenceIdeal.Gen.gather_S121x512_S32x32x1_S32x32x512_2_0_n_n_0_2_1512_wf R (Cert.KernelIdeal.Tok.bins r) hr n t d
  have eG (n t : Fin 32) (d : Fin 512) := Cert.ReferenceIdeal.Tok.look_apply (N := 41) (by decide) 41#32 40#32 (by decide)
    Cert.ReferenceIdeal.Gen.gather_S41x512_S32x32x1_S32x32x512_2_0_n_n_0_2_1512_wf G (Cert.KernelIdeal.Tok.games g) hg n t d
  have eA (n t : Fin 32) (d : Fin 512) := Cert.ReferenceIdeal.Tok.look_apply (N := 18) (by decide) 18#32 17#32 (by decide)
    Cert.ReferenceIdeal.Gen.gather_S18x512_S32x32x1_S32x32x512_2_0_n_n_0_2_1512_wf A a ha n t d
  funext y
  obtain ⟨n, q, d, rfl⟩ : ∃ (n : Fin 32) (q : Fin 1248) (d : Fin 512), y = ix3 n q d := ⟨y 0, y 1, y 2, (ix3_eta y).symm⟩
  refine (tokens_apply _ n q d).trans ?_
  refine Eq.trans ?_ (Cert.ReferenceIdeal.Tok.toks_apply _ _ _ _ n q d).symm
  show Cert.KernelIdeal.Tok.allAt _ _ _ _ _ _ _ _ _ (fr n ⟨q.val / 39, by omega⟩) ⟨q.val % 39, by omega⟩ d = _
  unfold Cert.KernelIdeal.Tok.allAt
  by_cases h0 : q.val % 39 = 0
  · rw [if_pos h0, if_pos h0, words_apply, row_eq R (hr _)]
    exact ((Cert.ReferenceIdeal.Tok.one_apply _ n _ d).trans (eR n _ d)).symm
  by_cases h1 : q.val % 39 = 1
  · rw [if_neg h0, if_neg h0, if_pos h1, if_pos h1, words_apply, row_eq G (hg _)]
    exact ((Cert.ReferenceIdeal.Tok.one_apply _ n _ d).trans (eG n _ d)).symm
  by_cases h2 : q.val % 39 < 38
  · rw [if_neg h0, if_neg h0, if_neg h1, if_neg h1, dif_pos h2, dif_pos h2, bias_apply]
    refine Eq.trans ?_ (Cert.ReferenceIdeal.Tok.patches_apply X W b n _ _ d).symm
    refine congrArg (fun s : EReal => s + _) (Finset.sum_congr rfl fun k _ => congrArg (fun s : EReal => s * _) ?_)
    exact frames_apply X n _ _ _ _
  · rw [if_neg h0, if_neg h0, if_neg h1, if_neg h1, dif_neg h2, dif_neg h2, words_apply, row_eq A (ha _)]
    exact ((Cert.ReferenceIdeal.Tok.one_apply _ n _ d).trans (eA n _ d)).symm

end Cert.Tie

end
-- ==== Proof.RefRead.lean ====
module

public import proofs.«01_k».proof.Proof.RefRun

@[expose] public section

set_option maxRecDepth 16384

noncomputable section

namespace Cert.ReferenceIdeal.Tok

open Cert.ReferenceIdeal Cert.ReferenceIdeal.Gen
open Idealize.ShloMosaic Idealize.ShloMosaic.TcCoe Idealize.SL.Sem

variable {F : FTy → Type} [FloatOps F] (V : Valuation τ sig (Elt F))

/-- What a lookup writes. -/
def lookWrites (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]

/-- A lookup leaves alone what it does not write. -/
theorem look_kept {N : Nat} {n k : BitVec 32} {g : GatherDims ⟨2, ![N, 512]⟩ S32x32x1 S32x32x512} {T : StableHlo.TRef sig ⟨⟨2, ![N, 512]⟩, .f32⟩}
    {ids : StableHlo.TRef sig ⟨S32x32, .i32⟩} {φ : fn_take.Bufs} {r : Ref sig .tc} (hr : r ∉ lookWrites φ) :
    StableHlo.after (takeOps (F := F) n k g T ids φ) V (Proc.devRef .tc r) = V (Proc.devRef .tc r) :=
  StableHlo.after_unwritten (lookWrites φ) rfl hr V

theorem look_bins : StableHlo.after (ops5 (F := F)) V (Proc.devRef .tc main_v14) =
    look 121#32 120#32 gather_S121x512_S32x32x1_S32x32x512_2_0_n_n_0_2_1512 (V (Proc.devRef .tc main_arg6)) (V (Proc.devRef .tc main_v13)) := by
  after_reads_simp
  rfl

theorem look_games : StableHlo.after (ops7 (F := F)) V (Proc.devRef .tc main_v16) =
    look 41#32 40#32 gather_S41x512_S32x32x1_S32x32x512_2_0_n_n_0_2_1512 (V (Proc.devRef .tc main_arg7)) (V (Proc.devRef .tc main_v1)) := by
  after_reads_simp
  rfl

theorem look_actions : StableHlo.after (ops9 (F := F)) V (Proc.devRef .tc main_v18) =
    look 18#32 17#32 gather_S18x512_S32x32x1_S32x32x512_2_0_n_n_0_2_1512 (V (Proc.devRef .tc main_arg8)) (V (Proc.devRef .tc main_arg1)) := by
  after_reads_simp
  rfl

theorem one_bins : StableHlo.after (ops6 (F := F)) V (Proc.devRef .tc main_v15) = one (V (Proc.devRef .tc main_v14)) := by
  after_reads_simp <;> rfl

theorem one_games : StableHlo.after (ops8 (F := F)) V (Proc.devRef .tc main_v17) = one (V (Proc.devRef .tc main_v16)) := by
  after_reads_simp <;> rfl

theorem toks_all : StableHlo.after (ops10 (F := F)) V (Proc.devRef .tc main_v21) =
    toks (V (Proc.devRef .tc main_v15)) (V (Proc.devRef .tc main_v17)) (V (Proc.devRef .tc main_v8)) (one (V (Proc.devRef .tc main_v18))) := by
  after_reads_simp <;> rfl

theorem kept6 {r : Ref sig .tc} (hr : r ∉ [main_v15]) : StableHlo.after (ops6 (F := F)) V (Proc.devRef .tc r) = V (Proc.devRef .tc r) :=
  StableHlo.after_unwritten [main_v15] rfl hr V

theorem kept8 {r : Ref sig .tc} (hr : r ∉ [main_v17]) : StableHlo.after (ops8 (F := F)) V (Proc.devRef .tc r) = V (Proc.devRef .tc r) :=
  StableHlo.after_unwritten [main_v17] rfl hr V

/-- The contents after the operations ahead of the lookups. -/
def pre : Valuation τ sig (Elt F) := StableHlo.after (ops0 ++ (ops1 ++ (ops2 ++ (ops3 ++ ops4)))) V

theorem pre_kept {r : Ref sig .tc} (hr : r ∉ written.take 22) : pre V (Proc.devRef .tc r) = V (Proc.devRef .tc r) :=
  StableHlo.after_unwritten (written.take 22) rfl hr V

theorem pre_v1 : pre V (Proc.devRef .tc main_v1) = games (V (Proc.devRef .tc main_arg3)) := by
  unfold games pre
  simp only [List.cons_append, List.nil_append]
  after_reads_simp <;> rfl

theorem pre_v8 : pre V (Proc.devRef .tc main_v8) = patches (V (Proc.devRef .tc main_arg0)) (V (Proc.devRef .tc main_arg4)) (V (Proc.devRef .tc main_arg5)) := by
  unfold patches pre
  simp only [List.cons_append, List.nil_append]
  after_reads_simp <;> rfl

theorem pre_v13 : pre V (Proc.devRef .tc main_v13) = bins (V (Proc.devRef .tc main_arg2)) := by
  unfold bins pre
  simp only [List.cons_append, List.nil_append]
  after_reads_simp <;> rfl

theorem all_eq : StableHlo.after (opss (F := F)).flatten V =
    StableHlo.after ops10 (StableHlo.after ops9 (StableHlo.after ops8 (StableHlo.after ops7 (StableHlo.after ops6 (StableHlo.after ops5 (pre V)))))) := by
  simp only [List.flatten_cons, List.flatten_nil, pre, StableHlo.after_append, StableHlo.after_nil]

/-- The tokens the reference leaves, over its arguments. -/
theorem read_v21 : StableHlo.after (opss (F := F)).flatten V (Proc.devRef .tc main_v21) =
    toks (one (look 121#32 120#32 gather_S121x512_S32x32x1_S32x32x512_2_0_n_n_0_2_1512 (V (Proc.devRef .tc main_arg6)) (bins (V (Proc.devRef .tc main_arg2)))))
      (one (look 41#32 40#32 gather_S41x512_S32x32x1_S32x32x512_2_0_n_n_0_2_1512 (V (Proc.devRef .tc main_arg7)) (games (V (Proc.devRef .tc main_arg3)))))
      (patches (V (Proc.devRef .tc main_arg0)) (V (Proc.devRef .tc main_arg4)) (V (Proc.devRef .tc main_arg5)))
      (one (look 18#32 17#32 gather_S18x512_S32x32x1_S32x32x512_2_0_n_n_0_2_1512 (V (Proc.devRef .tc main_arg8)) (V (Proc.devRef .tc main_arg1)))) := by
  rw [all_eq, toks_all, look_actions]
  rw [look_kept (r := main_v15) _ (by decide), look_kept (r := main_v17) _ (by decide), look_kept (r := main_v8) _ (by decide)]
  rw [one_games, look_games]
  rw [kept8 (r := main_v15) _ (by decide), kept8 (r := main_v8) _ (by decide), kept8 (r := main_arg8) _ (by decide), kept8 (r := main_arg1) _ (by decide)]
  rw [look_kept (r := main_v15) _ (by decide), look_kept (r := main_v8) _ (by decide), look_kept (r := main_arg8) _ (by decide), look_kept (r := main_arg1) _ (by decide)]
  rw [one_bins, look_bins]
  rw [kept6 (r := main_v8) _ (by decide), kept6 (r := main_arg8) _ (by decide), kept6 (r := main_arg1) _ (by decide), kept6 (r := main_arg7) _ (by decide), kept6 (r := main_v1) _ (by decide)]
  rw [look_kept (r := main_v8) _ (by decide), look_kept (r := main_arg8) _ (by decide), look_kept (r := main_arg1) _ (by decide), look_kept (r := main_arg7) _ (by decide), look_kept (r := main_v1) _ (by decide)]
  rw [pre_v8, pre_v13, pre_v1, pre_kept (r := main_arg8) _ (by decide), pre_kept (r := main_arg1) _ (by decide), pre_kept (r := main_arg7) _ (by decide), pre_kept (r := main_arg6) _ (by decide)]

end Cert.ReferenceIdeal.Tok

end
-- ==== Proof.Algebraic.lean ====
module

public import proofs.«01_k».proof.Proof.Frames
public import proofs.«01_k».proof.Proof.KernelRun
public import proofs.«01_k».proof.Proof.Tie
public import proofs.«01_k».proof.Proof.RefRead

@[expose] public section

set_option maxRecDepth 65536

noncomputable section

/-! Over the extended reals the kernel returns what the reference returns. -/

namespace Cert.Algebraic

open Idealize.ShloMosaic Idealize.ShloMosaic.TcCoe Idealize.SL.Sem Cert.Bounds

/-- The reference's run: its tokens, its bins and its game ids, over its arguments. -/
theorem ref_val (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v21) = Cert.ReferenceIdeal.Tok.toks (F := Ideal)
          (Cert.ReferenceIdeal.Tok.one (F := Ideal) (Cert.ReferenceIdeal.Tok.look (F := Ideal) 121#32 120#32 Cert.ReferenceIdeal.gather_S121x512_S32x32x1_S32x32x512_2_0_n_n_0_2_1512
            (m ((c.tc : Thread Cert.ReferenceIdeal.nD Cert.ReferenceIdeal.τ).loc Cert.ReferenceIdeal.main_arg6))
            (Cert.ReferenceIdeal.Tok.bins (F := Ideal) (m ((c.tc : Thread Cert.ReferenceIdeal.nD Cert.ReferenceIdeal.τ).loc Cert.ReferenceIdeal.main_arg2)))))
          (Cert.ReferenceIdeal.Tok.one (F := Ideal) (Cert.ReferenceIdeal.Tok.look (F := Ideal) 41#32 40#32 Cert.ReferenceIdeal.gather_S41x512_S32x32x1_S32x32x512_2_0_n_n_0_2_1512
            (m ((c.tc : Thread Cert.ReferenceIdeal.nD Cert.ReferenceIdeal.τ).loc Cert.ReferenceIdeal.main_arg7))
            (Cert.ReferenceIdeal.Tok.games (m ((c.tc : Thread Cert.ReferenceIdeal.nD Cert.ReferenceIdeal.τ).loc Cert.ReferenceIdeal.main_arg3)))))
          (Cert.ReferenceIdeal.Tok.patches (F := Ideal) (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5)))
          (Cert.ReferenceIdeal.Tok.one (F := Ideal) (Cert.ReferenceIdeal.Tok.look (F := Ideal) 18#32 17#32 Cert.ReferenceIdeal.gather_S18x512_S32x32x1_S32x32x512_2_0_n_n_0_2_1512
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_v13)
            = Cert.ReferenceIdeal.Tok.bins (F := Ideal) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v1)
            = Cert.ReferenceIdeal.Tok.games (m ((c.tc : Thread Cert.ReferenceIdeal.nD Cert.ReferenceIdeal.τ).loc Cert.ReferenceIdeal.main_arg3))) :=
  θ_run_mono (Cert.ReferenceIdeal.Tok.run m g) fun r h c =>
    ⟨(h c _).trans (Cert.ReferenceIdeal.Tok.read_v21 _), (h c _).trans (Cert.ReferenceIdeal.Tok.read_v13 _), (h c _).trans (Cert.ReferenceIdeal.Tok.read_v1 _)⟩

theorem algebraic : Cert.algebraic_KernelIdeal_ReferenceIdeal (hKernelIdeal := Cert.KernelIdeal.Gen.facts)
    (hReferenceIdeal := Cert.ReferenceIdeal.Gen.facts) (hPre_ids_in_tables := Cert.Pre_ids_in_tables.Gen.facts) := by
  intro m g m' g' hpre hagree
  have hid := Cert.Frames.ids_ideal hpre
  refine ⟨fun c => Cert.KernelIdeal.Tok.result m c, fun c => Cert.KernelIdeal.Tok.bins (F := Ideal) (m ((c.tc : Thread Cert.KernelIdeal.nD Cert.KernelIdeal.τ).loc Cert.KernelIdeal.main_arg2)),
    fun c => Cert.KernelIdeal.Tok.games (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1),
    θ_run_mono (θ_run_and (Cert.KernelIdeal.Tok.run_val m g hid) (Cert.KernelIdeal.Tok.frame m g hid)) fun r h c =>
      ⟨(h.1 c).1, (h.1 c).2.1, (h.1 c).2.2, (h.2.1 c).2.1, h.2.1 c⟩,
    θ_run_mono (θ_run_and (ref_val m' g') (Cert.Frames.ref_frame m' g')) fun r h c => ?_⟩
  obtain ⟨e0, e1, e2, e3, e4, e5, e6, e7, e8⟩ := hagree c
  have v := h.1 c
  rw [e0, e1, e2, e3, e4, e5, e6, e7, e8] at v
  have k := h.2.1 c
  refine ⟨v.1.trans (Cert.Tie.tokens_eq _ _ _ _ _ _ _ _ _ (fun y => bins_lt _ y) ((ids _ _ _ _ _ _ _ _ _ (hpre c)).1)
    (fun y => (ids _ _ _ _ _ _ _ _ _ (hpre c)).2 _)).symm, v.2.1, v.2.2, (k _ (by decide)).trans e1, ?_, ?_, ?_, ?_, ?_, ?_, ?_, ?_, ?_⟩ <;>
    exact k _ (by decide)

end Cert.Algebraic

end
-- ==== Proof.lean ====
/- The claims about the token builder, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ids_and_bins_in_tables
public import proofs.«01_k».proof.Proof.Gen.Pre_ids_in_tables
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_and_bins_in_tables.Gen.facts, Cert.Pre_ids_in_tables.Gen.facts,
  Cert.Frames.frame_Kernel, Cert.Frames.frame_KernelIdeal, Cert.Frames.frame_KernelIdeal_bins, Cert.Frames.frame_ReferenceIdeal,
  Cert.Frames.frame_ReferenceIdeal_ids, trivial, Cert.Algebraic.algebraic⟩

end Cert.Proof

end
